-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1040 : Shape := ⟨1, ![1040]⟩
abbrev S1040x1 : Shape := ⟨2, ![1040, 1]⟩
abbrev S2048 : Shape := ⟨1, ![2048]⟩
abbrev S1x2048 : Shape := ⟨2, ![1, 2048]⟩
abbrev S1040x2048 : Shape := ⟨2, ![1040, 2048]⟩
abbrev S_ : Shape := ⟨0, ![]⟩
abbrev S2048x1040 : Shape := ⟨2, ![2048, 1040]⟩
abbrev S1x1024 : Shape := ⟨2, ![1, 1024]⟩
abbrev S1x512x1024 : Shape := ⟨3, ![1, 512, 1024]⟩
abbrev S512x1024 : Shape := ⟨2, ![512, 1024]⟩
abbrev S4x1040x1024 : Shape := ⟨3, ![4, 1040, 1024]⟩
abbrev S1x2048x256 : Shape := ⟨3, ![1, 2048, 256]⟩
abbrev S1x1040x256 : Shape := ⟨3, ![1, 1040, 256]⟩
abbrev S2048x256 : Shape := ⟨2, ![2048, 256]⟩
abbrev S1040x256 : Shape := ⟨2, ![1040, 256]⟩
abbrev S256 : Shape := ⟨1, ![256]⟩
abbrev S1x256 : Shape := ⟨2, ![1, 256]⟩
abbrev S512x1040 : Shape := ⟨2, ![512, 1040]⟩
abbrev S1x1040x1024 : Shape := ⟨3, ![1, 1040, 1024]⟩
abbrev S1040x1024 : Shape := ⟨2, ![1040, 1024]⟩

abbrev nBuf : Space → Nat
  | .hbm => 54
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1040, .i32⟩
  | .hbm, ⟨4, _⟩ => ⟨S1040x1, .i32⟩
  | .hbm, ⟨5, _⟩ => ⟨S2048, .i32⟩
  | .hbm, ⟨6, _⟩ => ⟨S1x2048, .i32⟩
  | .hbm, ⟨7, _⟩ => ⟨S1040x2048, .i32⟩
  | .hbm, ⟨8, _⟩ => ⟨S1040x2048, .i32⟩
  | .hbm, ⟨9, _⟩ => ⟨S1040x2048, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S1040x2048, .i32⟩
  | .hbm, ⟨17, _⟩ => ⟨S1040x2048, .i32⟩
  | .hbm, ⟨18, _⟩ => ⟨S_, .i32⟩
  | .hbm, ⟨19, _⟩ => ⟨S1040x2048, .i32⟩
  | .hbm, ⟨20, _⟩ => ⟨S1040x2048, .i1⟩
  | .hbm, ⟨21, _⟩ => ⟨S_, .i32⟩
  | .hbm, ⟨22, _⟩ => ⟨S1040x2048, .i32⟩
  | .hbm, ⟨23, _⟩ => ⟨S1040x2048, .i1⟩
  | .hbm, ⟨24, _⟩ => ⟨S_, .i32⟩
  | .hbm, ⟨25, _⟩ => ⟨S_, .i1⟩
  | .hbm, ⟨26, _⟩ => ⟨S1040x2048, .i1⟩
  | .hbm, ⟨27, _⟩ => ⟨S1040x2048, .i1⟩
  | .hbm, ⟨28, _⟩ => ⟨S1040x2048, .i1⟩
  | .hbm, ⟨29, _⟩ => ⟨S1040x2048, .i32⟩
  | .hbm, ⟨30, _⟩ => ⟨S1040x2048, .i32⟩
  | .hbm, ⟨31, _⟩ => ⟨S1040x2048, .i32⟩
  | .hbm, ⟨32, _⟩ => ⟨S1040x2048, .f32⟩
  | .hbm, ⟨33, _⟩ => ⟨S_, .f32⟩
  | .hbm, ⟨34, _⟩ => ⟨S1040x2048, .f32⟩
  | .hbm, ⟨35, _⟩ => ⟨S1040x2048, .f32⟩
  | .hbm, ⟨36, _⟩ => ⟨S_, .i32⟩
  | .hbm, ⟨37, _⟩ => ⟨S1040x1, .i32⟩
  | .hbm, ⟨38, _⟩ => ⟨S1040x1, .i1⟩
  | .hbm, ⟨39, _⟩ => ⟨S1040x1, .f32⟩
  | .hbm, ⟨40, _⟩ => ⟨S1040x2048, .f32⟩
  | .hbm, ⟨41, _⟩ => ⟨S1040x2048, .f32⟩
  | .hbm, ⟨42, _⟩ => ⟨S1040x2048, .f32⟩
  | .hbm, ⟨43, _⟩ => ⟨S1040x2048, .f32⟩
  | .hbm, ⟨44, _⟩ => ⟨S1040x2048, .f32⟩
  | .hbm, ⟨45, _⟩ => ⟨S1040x2048, .f32⟩
  | .hbm, ⟨46, _⟩ => ⟨S2048x1040, .f32⟩
  | .hbm, ⟨47, _⟩ => ⟨S2048x1040, .f32⟩
  | .hbm, ⟨48, _⟩ => ⟨S1024x1024, .f32⟩
  | .hbm, ⟨49, _⟩ => ⟨S1x1024, .f32⟩
  | .hbm, ⟨50, _⟩ => ⟨S4x2048x1024, .f32⟩
  | .hbm, ⟨51, _⟩ => ⟨S4x1040x1024, .f32⟩
  | .hbm, ⟨52, _⟩ => ⟨S4x1040x1024, .f32⟩
  | .hbm, ⟨53, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .f32⟩
  | .local _ .vmem, ⟨3, _⟩ => ⟨S1x1024, .f32⟩
  | .local _ .vmem, ⟨4, _⟩ => ⟨S1x512x1024, .f32⟩
  | .local _ .vmem, ⟨5, _⟩ => ⟨S1x512x1024, .f32⟩
  | .local _ .vmem, ⟨6, _⟩ => ⟨S1040x2048, .f32⟩
  | .local _ .vmem, ⟨7, _⟩ => ⟨S1040x2048, .f32⟩
  | .local _ .vmem, ⟨8, _⟩ => ⟨S1x2048x256, .f32⟩
  | .local _ .vmem, ⟨9, _⟩ => ⟨S1x2048x256, .f32⟩
  | .local _ .vmem, ⟨10, _⟩ => ⟨S1x1040x256, .f32⟩
  | .local _ .vmem, ⟨11, _⟩ => ⟨S1x1040x256, .f32⟩
  | .local _ .vmem, ⟨12, _⟩ => ⟨S1x1040x256, .f32⟩
  | .local _ .vmem, ⟨13, _⟩ => ⟨S1x1040x256, .f32⟩
  | .local _ .vmem, ⟨14, _⟩ => ⟨S512x1040, .f32⟩
  | .local _ .vmem, ⟨15, _⟩ => ⟨S512x1040, .f32⟩
  | .local _ .vmem, ⟨16, _⟩ => ⟨S512x1040, .f32⟩
  | .local _ .vmem, ⟨17, _⟩ => ⟨S512x1040, .f32⟩
  | .local _ .vmem, ⟨18, _⟩ => ⟨S1x1040x1024, .f32⟩
  | .local _ .vmem, ⟨19, _⟩ => ⟨S1x1040x1024, .f32⟩
  | .local _ .vmem, ⟨20, _⟩ => ⟨S1x1040x1024, .f32⟩
  | .local _ .vmem, ⟨21, _⟩ => ⟨S1x1040x1024, .f32⟩
  | .local _ .vmem, ⟨22, _⟩ => ⟨S1x512x1024, .f32⟩
  | .local _ .vmem, ⟨23, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v7 : Ref sig .tc := ⟨.hbm, 31, rfl⟩
abbrev main_v8 : Ref sig .tc := ⟨.hbm, 32, rfl⟩
abbrev main_cst : Ref sig .tc := ⟨.hbm, 33, rfl⟩
abbrev main_v9 : Ref sig .tc := ⟨.hbm, 34, rfl⟩
abbrev main_v10 : Ref sig .tc := ⟨.hbm, 35, rfl⟩
abbrev main_c_0 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25_0 : Ref sig .tc := ⟨.hbm, 51, rfl⟩
abbrev main_v25_1 : Ref sig .tc := ⟨.hbm, 52, rfl⟩
abbrev main_v26 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 1 → Memref sig .tc .vmem S1040x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S1040x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1040x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1040x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S512x1040 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S512x1040 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1040x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1040x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S1025 : Shape := ⟨1, ![1025]⟩
abbrev S1025x1 : Shape := ⟨2, ![1025, 1]⟩
abbrev S2048 : Shape := ⟨1, ![2048]⟩
abbrev S1x2048 : Shape := ⟨2, ![1, 2048]⟩
abbrev S1025x2048 : Shape := ⟨2, ![1025, 2048]⟩
abbrev S_ : Shape := ⟨0, ![]⟩
abbrev S4x1024x1025 : Shape := ⟨3, ![4, 1024, 1025]⟩
abbrev S4x1024x32 : Shape := ⟨3, ![4, 1024, 32]⟩
abbrev S4 : Shape := ⟨1, ![4]⟩
abbrev S4x1x1 : Shape := ⟨3, ![4, 1, 1]⟩
abbrev S1x1024x1 : Shape := ⟨3, ![1, 1024, 1]⟩
abbrev S4x1024x32x1 : Shape := ⟨4, ![4, 1024, 32, 1]⟩
abbrev S4x1024x32x3 : Shape := ⟨4, ![4, 1024, 32, 3]⟩
abbrev S4x1024x2048 : Shape := ⟨3, ![4, 1024, 2048]⟩

abbrev nBuf : Space → Nat
  | .hbm => 91
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S4x2048x1024, .f32⟩
  | .hbm, ⟨5, _⟩ => ⟨S1x1x1024, .f32⟩
  | .hbm, ⟨6, _⟩ => ⟨S4x2048x1024, .f32⟩
  | .hbm, ⟨7, _⟩ => ⟨S4x2048x1024, .f32⟩
  | .hbm, ⟨8, _⟩ => ⟨S1025, .i32⟩
  | .hbm, ⟨9, _⟩ => ⟨S1025x1, .i32⟩
  | .hbm, ⟨10, _⟩ => ⟨S2048, .i32⟩
  | .hbm, ⟨11, _⟩ => ⟨S1x2048, .i32⟩
  | .hbm, ⟨12, _⟩ => ⟨S1025x2048, .i32⟩
  | .hbm, ⟨13, _⟩ => ⟨S1025x2048, .i32⟩
  | .hbm, ⟨14, _⟩ => ⟨S1025x2048, .i32⟩
  | .hbm, ⟨15, _⟩ => ⟨S_, .i32⟩
  | .hbm, ⟨16, _⟩ => ⟨S1025x2048, .i32⟩
  | .hbm, ⟨17, _⟩ => ⟨S1025x2048, .i32⟩
  | .hbm, ⟨18, _⟩ => ⟨S1025x2048, .f32⟩
  | .hbm, ⟨19, _⟩ => ⟨S_, .f32⟩
  | .hbm, ⟨20, _⟩ => ⟨S1025x2048, .f32⟩
  | .hbm, ⟨21, _⟩ => ⟨S1025x2048, .f32⟩
  | .hbm, ⟨22, _⟩ => ⟨S1025x2048, .f32⟩
  | .hbm, ⟨23, _⟩ => ⟨S1025x2048, .f32⟩
  | .hbm, ⟨24, _⟩ => ⟨S4x1024x1025, .f32⟩
  | .hbm, ⟨25, _⟩ => ⟨S4x1024x1025, .f32⟩
  | .hbm, ⟨26, _⟩ => ⟨S4x1024x1025, .f32⟩
  | .hbm, ⟨27, _⟩ => ⟨S4x1024x1025, .f32⟩
  | .hbm, ⟨28, _⟩ => ⟨S4x1024x1025, .f32⟩
  | .hbm, ⟨29, _⟩ => ⟨S4x1024x1025, .f32⟩
  | .hbm, ⟨30, _⟩ => ⟨S4x1024x32, .f32⟩
  | .hbm, ⟨31, _⟩ => ⟨S4x1024x32, .i32⟩
  | .hbm, ⟨32, _⟩ => ⟨S4, .i32⟩
  | .hbm, ⟨33, _⟩ => ⟨S4x1x1, .i32⟩
  | .hbm, ⟨34, _⟩ => ⟨S1024, .i32⟩
  | .hbm, ⟨35, _⟩ => ⟨S1x1024x1, .i32⟩
  | .hbm, ⟨36, _⟩ => ⟨S_, .f32⟩
  | .hbm, ⟨37, _⟩ => ⟨S4x1024x1025, .f32⟩
  | .hbm, ⟨38, _⟩ => ⟨S_, .i32⟩
  | .hbm, ⟨39, _⟩ => ⟨S4x1x1, .i32⟩
  | .hbm, ⟨40, _⟩ => ⟨S4x1x1, .i1⟩
  | .hbm, ⟨41, _⟩ => ⟨S_, .i32⟩
  | .hbm, ⟨42, _⟩ => ⟨S4x1x1, .i32⟩
  | .hbm, ⟨43, _⟩ => ⟨S4x1x1, .i32⟩
  | .hbm, ⟨44, _⟩ => ⟨S4x1x1, .i32⟩
  | .hbm, ⟨45, _⟩ => ⟨S_, .i32⟩
  | .hbm, ⟨46, _⟩ => ⟨S1x1024x1, .i32⟩
  | .hbm, ⟨47, _⟩ => ⟨S1x1024x1, .i1⟩
  | .hbm, ⟨48, _⟩ => ⟨S_, .i32⟩
  | .hbm, ⟨49, _⟩ => ⟨S1x1024x1, .i32⟩
  | .hbm, ⟨50, _⟩ => ⟨S1x1024x1, .i32⟩
  | .hbm, ⟨51, _⟩ => ⟨S1x1024x1, .i32⟩
  | .hbm, ⟨52, _⟩ => ⟨S_, .i32⟩
  | .hbm, ⟨53, _⟩ => ⟨S4x1024x32, .i32⟩
  | .hbm, ⟨54, _⟩ => ⟨S4x1024x32, .i1⟩
  | .hbm, ⟨55, _⟩ => ⟨S_, .i32⟩
  | .hbm, ⟨56, _⟩ => ⟨S4x1024x32, .i32⟩
  | .hbm, ⟨57, _⟩ => ⟨S4x1024x32, .i32⟩
  | .hbm, ⟨58, _⟩ => ⟨S4x1024x32, .i32⟩
  | .hbm, ⟨59, _⟩ => ⟨S4x1024x32, .i32⟩
  | .hbm, ⟨60, _⟩ => ⟨S4x1024x32, .i32⟩
  | .hbm, ⟨61, _⟩ => ⟨S4x1024x32x1, .i32⟩
  | .hbm, ⟨62, _⟩ => ⟨S4x1024x32x1, .i32⟩
  | .hbm, ⟨63, _⟩ => ⟨S4x1024x32x1, .i32⟩
  | .hbm, ⟨64, _⟩ => ⟨S4x1024x32x3, .i32⟩
  | .hbm, ⟨65, _⟩ => ⟨S_, .f32⟩
  | .hbm, ⟨66, _⟩ => ⟨S4x1024x32, .f32⟩
  | .hbm, ⟨67, _⟩ => ⟨S4x1024x1025, .f32⟩
  | .hbm, ⟨68, _⟩ => ⟨S_, .i32⟩
  | .hbm, ⟨69, _⟩ => ⟨S1025x1, .i32⟩
  | .hbm, ⟨70, _⟩ => ⟨S1025x1, .i1⟩
  | .hbm, ⟨71, _⟩ => ⟨S_, .i32⟩
  | .hbm, ⟨72, _⟩ => ⟨S1025x1, .i32⟩
  | .hbm, ⟨73, _⟩ => ⟨S1025x1, .i1⟩
  | .hbm, ⟨74, _⟩ => ⟨S1025x1, .i1⟩
  | .hbm, ⟨75, _⟩ => ⟨S_, .f32⟩
  | .hbm, ⟨76, _⟩ => ⟨S_, .f32⟩
  | .hbm, ⟨77, _⟩ => ⟨S1025x1, .f32⟩
  | .hbm, ⟨78, _⟩ => ⟨S1025x1, .f32⟩
  | .hbm, ⟨79, _⟩ => ⟨S1025x1, .f32⟩
  | .hbm, ⟨80, _⟩ => ⟨S1025x2048, .f32⟩
  | .hbm, ⟨81, _⟩ => ⟨S1025x2048, .f32⟩
  | .hbm, ⟨82, _⟩ => ⟨S4x1024x1025, .f32⟩
  | .hbm, ⟨83, _⟩ => ⟨S4x1024x2048, .f32⟩
  | .hbm, ⟨84, _⟩ => ⟨S4x2048x1024, .f32⟩
  | .hbm, ⟨85, _⟩ => ⟨S1025x2048, .f32⟩
  | .hbm, ⟨86, _⟩ => ⟨S1025x2048, .f32⟩
  | .hbm, ⟨87, _⟩ => ⟨S4x1024x1025, .f32⟩
  | .hbm, ⟨88, _⟩ => ⟨S4x1024x2048, .f32⟩
  | .hbm, ⟨89, _⟩ => ⟨S4x2048x1024, .f32⟩
  | .hbm, ⟨90, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_values : Ref sig .tc := ⟨.hbm, 30, rfl⟩
abbrev main_indices : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_0 : Ref sig .tc := ⟨.hbm, 36, rfl⟩
abbrev main_v29 : Ref sig .tc := ⟨.hbm, 37, rfl⟩
abbrev main_c_1 : Ref sig .tc := ⟨.hbm, 38, rfl⟩
abbrev main_v30 : Ref sig .tc := ⟨.hbm, 39, rfl⟩
abbrev main_v31 : Ref sig .tc := ⟨.hbm, 40, rfl⟩
abbrev main_c_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_3 : Ref sig .tc := ⟨.hbm, 45, rfl⟩
abbrev main_v35 : Ref sig .tc := ⟨.hbm, 46, rfl⟩
abbrev main_v36 : Ref sig .tc := ⟨.hbm, 47, rfl⟩
abbrev main_c_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_5 : Ref sig .tc := ⟨.hbm, 52, rfl⟩
abbrev main_v40 : Ref sig .tc := ⟨.hbm, 53, rfl⟩
abbrev main_v41 : Ref sig .tc := ⟨.hbm, 54, rfl⟩
abbrev main_c_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_c_8 : Ref sig .tc := ⟨.hbm, 68, rfl⟩
abbrev main_v53 : Ref sig .tc := ⟨.hbm, 69, rfl⟩
abbrev main_v54 : Ref sig .tc := ⟨.hbm, 70, rfl⟩
abbrev main_c_9 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_10 : Ref sig .tc := ⟨.hbm, 75, rfl⟩
abbrev main_cst_11 : Ref sig .tc := ⟨.hbm, 76, rfl⟩
abbrev main_call0_v0 : Ref sig .tc := ⟨.hbm, 77, rfl⟩
abbrev main_call0_v1 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩

abbrev nD : Nat := 1
abbrev τ : Topo := Topo.v7x

variable {F : FTy → Type} [FloatOps F]
-- ==== Proof.Select.lean ====
/- Choosing the `k` greatest entries of a column of extended reals, two ways: by `k` rounds of "the first greatest entry
   is chosen and overwritten with −1", and as the first `k` positions of a stable sort, greatest first. Both choose the
   entries that fewer than `k` others are ahead of. -/
module

public import Idealize.ShloMosaic.Lib.SortFacts
public import Idealize.ShloMosaic.Lib.PlanTiles.StableSort
public import Mathlib.Data.EReal.Operations

@[expose] public section

noncomputable section

namespace Cert.Proof.Select

open Idealize.ShloMosaic

variable {n : ℕ}

/-- Entry `g` comes before entry `f`: it is greater, or it is equal and at a lower position. -/
def Ahead (a : Fin n → EReal) (g f : Fin n) : Prop := a f < a g ∨ (a g = a f ∧ g < f)

/-- No entry is ahead of itself. -/
theorem ahead_irrefl (a : Fin n → EReal) (f : Fin n) : ¬Ahead a f f := by
  rintro (h | ⟨-, h⟩) <;> exact lt_irrefl _ h

/-- Of two entries one is ahead of the other. -/
theorem ahead_total (a : Fin n → EReal) {g f : Fin n} (h : g ≠ f) : Ahead a g f ∨ Ahead a f g := by
  rcases lt_trichotomy (a g) (a f) with h1 | h1 | h1
  · exact .inr (.inl h1)
  · rcases lt_or_gt_of_ne h with h2 | h2
    · exact .inl (.inr ⟨h1, h2⟩)
    · exact .inr (.inr ⟨h1.symm, h2⟩)
  · exact .inl (.inl h1)

/-- Not both are. -/
theorem ahead_asymm (a : Fin n → EReal) {g f : Fin n} (h : Ahead a g f) : ¬Ahead a f g := by
  rcases h with h | ⟨h, h'⟩ <;> rintro (k | ⟨k, k'⟩)
  · exact lt_asymm h k
  · exact (ne_of_lt h) k
  · exact (ne_of_lt k) h
  · exact lt_asymm h' k'

open Classical in
/-- How many entries come before entry `f`. -/
def rank (a : Fin n → EReal) (f : Fin n) : ℕ := (Finset.univ.filter fun g => Ahead a g f).card

/-- A set of positions that holds, with an entry, every entry ahead of it. -/
def Lower (a : Fin n → EReal) (S : Finset (Fin n)) : Prop := ∀ f ∈ S, ∀ g, Ahead a g f → g ∈ S

/-- Such a set holds exactly the entries of rank below its size. -/
theorem Lower.mem_iff {a : Fin n → EReal} {S : Finset (Fin n)} (hS : Lower a S) (f : Fin n) :
    f ∈ S ↔ rank a f < S.card := by
  classical
  constructor
  · intro hf
    refine Finset.card_lt_card (Finset.ssubset_iff_subset_ne.mpr ⟨fun g hg => hS f hf g (Finset.mem_filter.mp hg).2, ?_⟩)
    intro e
    rw [← e] at hf
    exact ahead_irrefl a f (Finset.mem_filter.mp hf).2
  · intro hlt
    by_contra hf
    refine absurd hlt (not_lt.mpr (Finset.card_le_card fun g hg => Finset.mem_filter.mpr ⟨Finset.mem_univ _, ?_⟩))
    rcases ahead_total a (show g ≠ f from fun e => hf (e ▸ hg)) with h | h
    · exact h
    · exact absurd (hS g hg f h) hf

/-! ## By rounds -/

/-- `w` is the first greatest entry of the column. -/
def IsFirst (x : Fin n → EReal) (w : Fin n) : Prop := (∀ g, x g ≤ x w) ∧ ∀ g, x g = x w → w ≤ g

open Classical in
/-- The column with its first greatest entry overwritten with −1. -/
def strike (x : Fin n → EReal) (f : Fin n) : EReal := if IsFirst x f then -1 else x f

/-- Entry `f` is chosen in one of the first `r` rounds. -/
def Picked (a : Fin n → EReal) : ℕ → Fin n → Prop
  | 0, _ => False
  | r + 1, f => Picked a r f ∨ IsFirst (strike^[r] a) f

/-- A column that is not empty has a first greatest entry. -/
theorem exists_isFirst (x : Fin n → EReal) (hn : 0 < n) : ∃ w, IsFirst x w := by
  classical
  have hne : (Finset.univ : Finset (Fin n)).Nonempty := ⟨⟨0, hn⟩, Finset.mem_univ _⟩
  obtain ⟨m, -, hm⟩ := Finset.exists_max_image Finset.univ x hne
  have hT : (Finset.univ.filter fun g => x g = x m).Nonempty := ⟨m, by simp⟩
  have hw := (Finset.mem_filter.mp (Finset.min'_mem _ hT)).2
  refine ⟨_, fun g => (hm g (Finset.mem_univ _)).trans_eq hw.symm, fun g hg => ?_⟩
  exact Finset.min'_le _ g (Finset.mem_filter.mpr ⟨Finset.mem_univ g, hg.trans hw⟩)

/-- It has only one. -/
theorem isFirst_unique {x : Fin n → EReal} {v w : Fin n} (hv : IsFirst x v) (hw : IsFirst x w) : v = w :=
  have e : x v = x w := le_antisymm (hw.1 v) (hv.1 w)
  le_antisymm (hv.2 w e.symm) (hw.2 v e)

/-- −1 is below every entry that is not negative. -/
theorem neg_one_lt {y : EReal} (h : 0 ≤ y) : (-1 : EReal) < y := lt_of_lt_of_le (by
  rw [show (-1 : EReal) = ((-1 : ℝ) : EReal) by norm_num, show (0 : EReal) = ((0 : ℝ) : EReal) from rfl]
  exact EReal.coe_lt_coe_iff.mpr (by norm_num)) h

open Classical in
/-- What `r` rounds leave: a set of `r` entries, with each every entry ahead of it; these are the entries chosen, and the
    column holds −1 at them and its own entries elsewhere. -/
theorem rounds (a : Fin n → EReal) (ha : ∀ f, 0 ≤ a f) : ∀ r ≤ n, ∃ S : Finset (Fin n), S.card = r ∧ Lower a S
    ∧ (∀ f, Picked a r f ↔ f ∈ S) ∧ ∀ f, strike^[r] a f = if f ∈ S then -1 else a f := by
  intro r
  induction r with
  | zero => exact fun _ => ⟨∅, rfl, fun f hf => by simp at hf, fun f => by simp [Picked], fun f => by simp⟩
  | succ r ih =>
    intro hr
    obtain ⟨S, hc, hl, hp, hx⟩ := ih (by omega)
    obtain ⟨w, hw⟩ := exists_isFirst (strike^[r] a) (by omega)
    have hex : ∃ v, v ∉ S := by
      by_contra h
      push Not at h
      have := Finset.card_le_card (fun g _ => h g : (Finset.univ : Finset (Fin n)) ⊆ S)
      rw [Finset.card_univ, Fintype.card_fin] at this
      omega
    have hwS : w ∉ S := by
      intro hwS
      obtain ⟨v, hv⟩ := hex
      have := hw.1 v
      rw [hx v, hx w, if_neg hv, if_pos hwS] at this
      exact absurd this (not_le.mpr (neg_one_lt (ha v)))
    have hmax : ∀ g, g ∉ S → a g ≤ a w := fun g hg => by
      have := hw.1 g
      rwa [hx g, hx w, if_neg hg, if_neg hwS] at this
    have hmin : ∀ g, g ∉ S → a g = a w → w ≤ g := fun g hg e => by
      refine hw.2 g ?_
      rw [hx g, hx w, if_neg hg, if_neg hwS, e]
    have hfirst : ∀ f, IsFirst (strike^[r] a) f ↔ f = w :=
      fun f => ⟨fun h => isFirst_unique h hw, fun h => h ▸ hw⟩
    refine ⟨insert w S, by rw [Finset.card_insert_of_notMem hwS, hc], ?_, fun f => ?_, fun f => ?_⟩
    · intro f hf g hg
      rcases Finset.mem_insert.mp hf with rfl | hf
      · by_contra hn
        have hgS : g ∉ S := fun h => hn (Finset.mem_insert_of_mem h)
        rcases hg with h | ⟨h, h'⟩
        · exact absurd (hmax g hgS) (not_le.mpr h)
        · exact absurd (hmin g hgS h) (not_le.mpr h')
      · exact Finset.mem_insert_of_mem (hl f hf g hg)
    · rw [Picked, hp f, hfirst f, Finset.mem_insert, or_comm]
    · rw [Function.iterate_succ_apply', strike]
      simp only [hfirst f, hx f, Finset.mem_insert]
      by_cases h1 : f = w <;> by_cases h2 : f ∈ S <;> simp [h1, h2]

/-- THE ROUNDS: over nonnegative entries, `r` rounds choose exactly the entries of rank below `r`. -/
theorem picked_iff (a : Fin n → EReal) (ha : ∀ f, 0 ≤ a f) (r : ℕ) (hr : r ≤ n) (f : Fin n) :
    Picked a r f ↔ rank a f < r := by
  obtain ⟨S, hc, hl, hp, -⟩ := rounds a ha r hr
  rw [hp f, hl.mem_iff f, hc]

/-! ## By a stable sort -/

open Classical in
/-- How many entries are less than entry `f`: a natural number ordered as the entries are. -/
def height (a : Fin n → EReal) (f : Fin n) : ℕ := (Finset.univ.filter fun g => a g < a f).card

/-- Heights are ordered as the entries are. -/
theorem height_lt (a : Fin n → EReal) (g f : Fin n) : height a g < height a f ↔ a g < a f := by
  classical
  constructor
  · intro h
    by_contra hn
    exact absurd h (not_lt.mpr (Finset.card_le_card fun k hk =>
      Finset.mem_filter.mpr ⟨Finset.mem_univ _, (Finset.mem_filter.mp hk).2.trans_le (not_lt.mp hn)⟩))
  · intro h
    refine Finset.card_lt_card (Finset.ssubset_iff_subset_ne.mpr ⟨fun k hk =>
      Finset.mem_filter.mpr ⟨Finset.mem_univ _, (Finset.mem_filter.mp hk).2.trans h⟩, fun e => ?_⟩)
    have : g ∈ Finset.univ.filter fun k => a k < a g := e ▸ Finset.mem_filter.mpr ⟨Finset.mem_univ _, h⟩
    exact lt_irrefl _ (Finset.mem_filter.mp this).2

/-- The stable sort, greatest first, puts nothing behind an entry that it is ahead of. -/
theorem sorted_not_ahead (a : Fin n → EReal) (B : Fin n → Fin n → Bool) (hB : ∀ g f, B g f = true ↔ a f < a g)
    (i j : Fin n) (hij : i < j) : ¬Ahead a (sortedFrom B j) (sortedFrom B i) := by
  have hBG : B = fun x y => decide (height a y < height a x) := by
    funext x y
    rw [Bool.eq_iff_iff, hB, decide_eq_true_iff, height_lt]
  have hp := PlanTiles.pairwise_stableSort_lex (height a) (· < ·) (List.finRange n) (List.pairwise_lt_finRange n)
  rw [← hBG] at hp
  have hg := List.pairwise_iff_get.mp hp (i.cast (length_sortPositions n B).symm) (j.cast (length_sortPositions n B).symm) hij
  intro h
  change PlanTiles.Lex (height a) (· < ·) (sortedFrom B i) (sortedFrom B j) at hg
  rcases hg with h1 | ⟨h1, h2⟩
  · have h1' := (height_lt a _ _).mp h1
    rcases h with h | ⟨h, -⟩
    · exact lt_asymm h h1'
    · exact (ne_of_lt h1') h
  · rcases h with h | ⟨-, h⟩
    · exact absurd ((height_lt a _ _).mpr h) (by omega)
    · exact lt_asymm h h2

/-- THE SORT: the first `k` positions of the stable sort, greatest first, are exactly the entries of rank below `k`. -/
theorem sorted_iff (a : Fin n → EReal) (B : Fin n → Fin n → Bool) (hB : ∀ g f, B g f = true ↔ a f < a g)
    (k : ℕ) (hk : k ≤ n) (f : Fin n) : (∃ i : Fin k, sortedFrom B (i.castLE hk) = f) ↔ rank a f < k := by
  classical
  have hinj : Function.Injective fun i : Fin k => sortedFrom B (i.castLE hk) := fun i j h =>
    Fin.castLE_injective hk (sortedFrom_injective B h)
  have hl : Lower a (Finset.univ.image fun i : Fin k => sortedFrom B (i.castLE hk)) := by
    intro f hf g hg
    obtain ⟨j, -, rfl⟩ := Finset.mem_image.mp hf
    obtain ⟨i, rfl⟩ := sortedFrom_surjective B g
    rcases lt_trichotomy i (j.castLE hk) with h | h | h
    · exact Finset.mem_image.mpr ⟨⟨i.val, lt_trans h j.isLt⟩, Finset.mem_univ _, rfl⟩
    · exact absurd (h ▸ hg) (ahead_irrefl a _)
    · exact absurd hg (sorted_not_ahead a B hB _ _ h)
  have := hl.mem_iff f
  rw [Finset.card_image_of_injective _ hinj, Finset.card_univ, Fintype.card_fin] at this
  rw [← this]
  simp

/-! ## The rank under a change of column -/

/-- Columns ordered alike rank alike. -/
theorem rank_congr {a b : Fin n → EReal} (h : ∀ g f, a g < a f ↔ b g < b f) (f : Fin n) : rank a f = rank b f := by
  classical
  unfold rank
  congr 1
  refine Finset.filter_congr fun g _ => ?_
  have he : a g = a f ↔ b g = b f := by
    rw [← not_iff_not, ← ne_eq, ← ne_eq, ne_iff_lt_or_gt, ne_iff_lt_or_gt, h g f]
    exact or_congr_right (h f g)
  unfold Ahead
  rw [h f g, he]

/-- A column of nonnegative entries followed by zeros ranks its own entries as it does alone. -/
theorem rank_padded {N : ℕ} (hN : n ≤ N) (A : Fin N → EReal) (hA : ∀ f, 0 ≤ A f) (hz : ∀ f : Fin N, n ≤ f.val → A f = 0)
    (f : Fin n) : rank A (f.castLE hN) = rank (fun g => A (g.castLE hN)) f := by
  classical
  unfold rank
  symm
  rw [← Finset.card_map (Fin.castLEEmb hN)]
  congr 1
  ext g
  simp only [Finset.mem_map, Finset.mem_filter, Finset.mem_univ, true_and, Fin.castLEEmb_apply]
  constructor
  · rintro ⟨g, hg, rfl⟩
    exact hg
  · intro hg
    by_cases hgn : g.val < n
    · exact ⟨⟨g.val, hgn⟩, hg, rfl⟩
    · exfalso
      have h0 := hz g (by omega)
      rcases hg with h | ⟨-, h⟩
      · exact absurd h (not_lt.mpr (h0 ▸ hA _))
      · have h' : g.val < f.val := h
        have := f.isLt
        omega

end Cert.Proof.Select

end
-- ==== Proof.Mask.lean ====
/- Which entries the reference's mask keeps. -/
module

public import proofs.«01_k».proof.Proof.Select
public import proofs.«01_k».proof.Proof.Gen.ReferenceIdeal.Read
public import Idealize.ShloMosaic.Lib.Pointwise
public import Idealize.ShloMosaic.Lib.Routing.OpsSet
public import Idealize.ShloMosaic.Lib.Routing.OpsPair

@[expose] public section

set_option maxRecDepth 16384

noncomputable section

namespace Cert.Proof.Mask

open Idealize.ShloMosaic Cert.ReferenceIdeal Cert.ReferenceIdeal.Gen Cert.ReferenceIdeal.Read

/-- The order that sorts a column of entries, greatest first. -/
def before (A : FVec Ideal S4x1024x1025 .f32) (b : Fin 4) (h : Fin 1024) (g f : Fin 1025) : Bool :=
  FloatOps.cmpfTotal .gt (A (ix3 b h g)) (A (ix3 b h f)) == 1#1

/-- One entry sorts before another exactly when it is greater. -/
theorem before_iff (A : FVec Ideal S4x1024x1025 .f32) (b : Fin 4) (h : Fin 1024) (g f : Fin 1025) :
    before A b h g f = true ↔ A (ix3 b h f) < A (ix3 b h g) := by
  show (BitVec.ofBool (decide (A (ix3 b h f) < A (ix3 b h g))) == 1#1) = true ↔ _
  by_cases hc : A (ix3 b h f) < A (ix3 b h g)
  · simp [hc]
  · simp [hc]

/-- Replacing the last coordinate of an index. -/
theorem along_apply (b : Fin 4) (h : Fin 1024) (k g : Fin 1025) :
    Shape.Idx.along (s := S4x1024x1025) (ix3 b h k) 2 g = ix3 b h g := by
  funext a
  match a with
  | ⟨0, _⟩ => rfl
  | ⟨1, _⟩ => rfl
  | ⟨2, _⟩ => rfl

/-- Entry `k` of the greatest entries' positions: the position that the sort puts at `k`. -/
theorem topK_apply (A : FVec Ideal S4x1024x1025 .f32) (b : Fin 4) (h : Fin 1024) (k : Fin 32) :
    (Host.topK S4x1024x32 2 (FloatOps.cmpfTotal .gt) A sliceFits_S4x1024x1025_S4x1024x32).2 (ix3 b h k) =
      BitVec.ofNat 32 (sortedFrom (before A b h) (k.castLE (by decide))).val := by
  unfold Host.topK Host.sort2
  pointwise []
  simp only [along_apply]
  rfl

/-- Where the window of update `(b, h, k)` starts: the three words of its index vector, read signed. -/
theorem start_apply (b : Fin 4) (h : Fin 1024) (k : Fin 32) (idx : IVec S4x1024x32x3 32) (a : Fin 3) :
    scatter_S4x1024x1025_S4x1024x32x3_S4x1024x32_n_012_012_3.start (ix3 b h k) idx a = (idx (ix4 b h k a)).toInt := by
  unfold ScatterDims.start
  rw [dif_pos (by revert a; decide)]
  congr 2
  funext c
  match c with
  | ⟨0, _⟩ => rfl
  | ⟨1, _⟩ => rfl
  | ⟨2, _⟩ => rfl
  | ⟨3, _⟩ =>
    match a with
    | ⟨0, _⟩ => rfl
    | ⟨1, _⟩ => rfl
    | ⟨2, _⟩ => rfl

variable (x0 : FVec Ideal S4x2048x1024 .f32) (x1 : FVec Ideal S1024x1024 .f32) (x2 : FVec Ideal S1024 .f32)

/-- A word that is not negative is left as it is by the wrap of negative indices. -/
theorem wrapped (n : ℕ) (hn : n < 2 ^ 31) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)

/-- A small number's word, read signed, is the number. -/
theorem toInt_word (n : ℕ) (hn : n < 2 ^ 31) : (BitVec.ofNat 32 n).toInt = n := by
  have : (BitVec.ofNat 32 n).toNat = n := by rw [BitVec.toNat_ofNat]; omega
  rw [BitVec.toInt_eq_toNat_of_lt (by omega), this]

/-- The magnitudes. -/
abbrev mag : FVec Ideal S4x1024x1025 .f32 := val_main_v24 (F := Ideal) x0 x1 x2

/-- The position of the `k`-th greatest magnitude of a column. -/
def place (b : Fin 4) (h : Fin 1024) (k : Fin 32) : Fin 1025 :=
  sortedFrom (before (mag x0 x1 x2) b h) (k.castLE (by decide))

/-- The index vectors' first words: the batch number. -/
theorem v50_0 (b : Fin 4) (h : Fin 1024) (k : Fin 32) :
    val_main_v50 (F := Ideal) x0 x1 x2 (ix4 b h k 0) = BitVec.ofNat 32 b.val := by
  refine Eq.trans ?_ (wrapped b.val (by omega) (IntOp.addi (BitVec.ofNat 32 b.val) 4#32))
  pointwise [val_main_v50, val_main_v47, val_main_v45, val_main_v34, val_main_v31, val_main_v33, val_main_v32,
    val_main_v26, val_main_v25, val_main_v30, val_main_c_1, val_main_c_2]
/-- The index vectors' second words: the channel number. -/
theorem v50_1 (b : Fin 4) (h : Fin 1024) (k : Fin 32) :
    val_main_v50 (F := Ideal) x0 x1 x2 (ix4 b h k 1) = BitVec.ofNat 32 h.val := by
  refine Eq.trans ?_ (wrapped h.val (by omega) (IntOp.addi (BitVec.ofNat 32 h.val) 1024#32))
  pointwise [val_main_v50, val_main_v48, val_main_v46, val_main_v39, val_main_v36, val_main_v38, val_main_v37,
    val_main_v28, val_main_v27, val_main_v35, val_main_c_3, val_main_c_4]
/-- The index vectors' third words: the position of the `k`-th greatest magnitude. -/
theorem v50_2 (b : Fin 4) (h : Fin 1024) (k : Fin 32) :
    val_main_v50 (F := Ideal) x0 x1 x2 (ix4 b h k 2) = BitVec.ofNat 32 (place x0 x1 x2 b h k).val := by
  have hi : val_main_indices (F := Ideal) x0 x1 x2 (ix3 b h k) = BitVec.ofNat 32 (place x0 x1 x2 b h k).val :=
    topK_apply _ b h k
  refine Eq.trans ?_ (wrapped (place x0 x1 x2 b h k).val (by omega)
    (IntOp.addi (BitVec.ofNat 32 (place x0 x1 x2 b h k).val) 1025#32))
  rw [← hi]
  pointwise [val_main_v50, val_main_v49, val_main_v44, val_main_v41, val_main_v43, val_main_v42,
    val_main_v40, val_main_c_5, val_main_c_6]

/-- Update `(b', h', k)` lands at the position of the `k`-th greatest magnitude of column `(b', h')`. -/
theorem lands_iff (b b' : Fin 4) (h h' : Fin 1024) (k : Fin 32) (f : Fin 1025) :
    scatter_S4x1024x1025_S4x1024x32x3_S4x1024x32_n_012_012_3.resultIdx? (ix3 b' h' k) (val_main_v50 (F := Ideal) x0 x1 x2) =
      some (ix3 b h f) ↔ b' = b ∧ h' = h ∧ place x0 x1 x2 b' h' k = f := by
  have hw : ∀ a : Fin 3, scatter_S4x1024x1025_S4x1024x32x3_S4x1024x32_n_012_012_3.window (ix3 b' h' k) a = 0 := fun a => by
    unfold ScatterDims.window
    rw [dif_neg (by revert a; decide)]
  have h0 : (val_main_v50 (F := Ideal) x0 x1 x2 (ix4 b' h' k 0)).toInt = b'.val := by
    rw [v50_0, toInt_word _ (by omega)]
  have h1 : (val_main_v50 (F := Ideal) x0 x1 x2 (ix4 b' h' k 1)).toInt = h'.val := by
    rw [v50_1, toInt_word _ (by omega)]
  have h2 : (val_main_v50 (F := Ideal) x0 x1 x2 (ix4 b' h' k 2)).toInt = (place x0 x1 x2 b' h' k).val := by
    rw [v50_2, toInt_word _ (by omega)]
  generalize place x0 x1 x2 b' h' k = p at h2 ⊢
  generalize val_main_v50 (F := Ideal) x0 x1 x2 = idx at h0 h1 h2 ⊢
  rw [Routing.resultIdx?_eq_some]
  constructor
  · intro e
    have e0 := e (0 : Fin 3)
    have e1 := e (1 : Fin 3)
    have e2 := e (2 : Fin 3)
    rw [start_apply, hw, h0] at e0
    rw [start_apply, hw, h1] at e1
    rw [start_apply, hw, h2] at e2
    have e0' : (b'.val : ℤ) + ((0 : ℕ) : ℤ) = b.val := e0
    have e1' : (h'.val : ℤ) + ((0 : ℕ) : ℤ) = h.val := e1
    have e2' : (p.val : ℤ) + ((0 : ℕ) : ℤ) = f.val := e2
    exact ⟨Fin.ext (by omega), Fin.ext (by omega), Fin.ext (by omega)⟩
  · rintro ⟨rfl, rfl, rfl⟩ a
    rw [start_apply, hw]
    match a with
    | ⟨0, _⟩ => exact (congrArg (· + _) h0).trans (add_zero _)
    | ⟨1, _⟩ => exact (congrArg (· + _) h1).trans (add_zero _)
    | ⟨2, _⟩ => exact (congrArg (· + _) h2).trans (add_zero _)

open Classical in
/-- The mask is one at the entries that fewer than 32 of their column are ahead of, and zero elsewhere. -/
theorem mask_apply (b : Fin 4) (h : Fin 1024) (f : Fin 1025) :
    val_main_v52 (F := Ideal) x0 x1 x2 (ix3 b h f) =
      if Select.rank (fun g => mag x0 x1 x2 (ix3 b h g)) f < 32 then (1 : EReal) else 0 := by
  have hs := Select.sorted_iff (fun g => mag x0 x1 x2 (ix3 b h g)) (before (mag x0 x1 x2) b h)
    (fun g f => before_iff _ b h g f) 32 (by decide) f
  unfold val_main_v52
  split
  · next hr =>
    obtain ⟨k, hk⟩ := hs.mpr hr
    refine Routing.scatter_set_hit _ _ _ _ _ _ (fun j _ => ?_) (ix3 b h k) ((lands_iff x0 x1 x2 b b h h k f).mpr ⟨rfl, rfl, hk⟩)
    rw [val_main_v51_apply, val_main_cst_7_apply]
    simp
  · next hr =>
    refine (Routing.scatter_set_miss _ _ _ _ _ fun j hj => hr ?_).trans ?_
    · rw [eq_ix3 j] at hj
      obtain ⟨hb, hh, hf⟩ := (lands_iff x0 x1 x2 b _ h _ _ f).mp hj
      rw [hb, hh] at hf
      exact hs.mp ⟨_, hf⟩
    · rw [val_main_v29_apply, val_main_cst_0_apply]
      simp

end Cert.Proof.Mask
-- ==== Proof.Call0.lean ====
/- The projection kernel: what its output array holds after the call. -/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Proof.Call0

open Idealize.ShloMosaic Idealize.ShloMosaic.TcCoe Cert.KernelIdeal Cert.KernelIdeal.Gen

variable (V : (c : Dev nD) → (b : Ref sig .tc) → Buf (Elt Ideal) ((c : Thread nD τ).loc b))

/-- The linear projection of every row of `x`: its product with the matrix `w`, and the row `b` added. -/
def proj (x : FVec Ideal S4x2048x1024 .f32) (w : FVec Ideal S1024x1024 .f32) (b : FVec Ideal S1x1024 .f32) :
    FVec Ideal S4x2048x1024 .f32 :=
  fun i => (∑ k : Fin 1024, x (ix3 (i 0) (i 1) k) * w (ix2 k (i 2))) + b (ix2 0 (i 2))

/-- The block index of every window at a grid point. -/
theorem idx : ∀ t : Fin cfg0.N, win0_0.index t = ![(grid0.coords t 0).val, (grid0.coords t 1).val, 0] ∧
    win0_1.index t = ![0, 0] ∧ win0_2.index t = ![0, 0] ∧
    win0_3.index t = ![(grid0.coords t 0).val, (grid0.coords t 1).val, 0] :=
  (by decide +kernel : ∀ t : Fin grid0.N, _)

/-- After the call the output array holds the projection of the first operand. -/
theorem arr (c : Dev nD) : (dat0 V c).arrAt 3 cfg0.N = proj (V c main_arg0) (V c main_v22) (V c main_v23) := by
  refine (dat0 V c).arrAt_eq_of_covers 3 _ (by decide +kernel) fun t hf y => ?_
  blk_simp
  rw [after0_3]
  frame_out
  unfold proj
  pointwise [k0_pay1]
  blk_point [iblk0, idx t]

end Cert.Proof.Call0
-- ==== Proof.Rounds.lean ====
/- The 32 selection rounds of the transform kernel: one round finds, in every column, the first greatest entry, marks it
   and overwrites it with −1. After 32 rounds the marks are on exactly the entries that fewer
   than 32 others are ahead of. -/
module

public import proofs.«01_k».proof.Proof.Select
public import proofs.«01_k».proof.Proof.Gen.KernelIdeal.Skeleton
public import Idealize.ShloMosaic.Lib.Pointwise
public import Idealize.ShloMosaic.Lib.SortNet.Extract

@[expose] public section

noncomputable section

namespace Cert.Proof.Rounds

open Idealize.ShloMosaic Cert.KernelIdeal Cert.KernelIdeal.Gen Cert.Proof.Select

/-! ## One round -/

/-- The row numbers. -/
def rows : IVec S1040x256 32 := iota .tc S1040x256 32 [0] iota_S1040x256_d0_w32

/-- The greatest entry of each column. -/
def colMax (x : FVec Ideal S1040x256 .f32) : FVec Ideal S256 .f32 :=
  multiReduction .maximumf [0] S256 x 0xFF800000#32 reduces_S1040x256_S256 (.inl rfl) rfl

/-- The greatest entry of each column, one row. -/
def colMaxRow (x : FVec Ideal S1040x256 .f32) : FVec Ideal S1x256 .f32 :=
  shapeCast S1x256 (colMax x) shapeCasts_S256_S1x256

/-- The greatest entry of each column, in every row. -/
def colMaxAll (x : FVec Ideal S1040x256 .f32) : FVec Ideal S1040x256 .f32 :=
  broadcastTo S1040x256 (colMaxRow x) broadcasts_S1x256_S1040x256

/-- Which entries are their column's greatest. -/
def isMax (x : FVec Ideal S1040x256 .f32) : IVec S1040x256 1 := cmpf .oeq x (colMaxAll x)

/-- The row number of each greatest entry, and 1040 elsewhere. -/
def maxRows (x : FVec Ideal S1040x256 .f32) : IVec S1040x256 32 := select (isMax x) rows (broadcast S1040x256 1040#32)

/-- The first row that holds the column's greatest entry. -/
def firstRow (x : FVec Ideal S1040x256 .f32) : IVec S256 32 :=
  multiReductionI .minsi [0] S256 (maxRows x) 2147483647#32 reduces_S1040x256_S256 rfl

/-- The first row that holds the column's greatest entry, one row of them. -/
def firstRowRow (x : FVec Ideal S1040x256 .f32) : IVec S1x256 32 := shapeCast S1x256 (firstRow x) shapeCasts_S256_S1x256

/-- The first row that holds the column's greatest entry, in every row. -/
def firstRowAll (x : FVec Ideal S1040x256 .f32) : IVec S1040x256 32 :=
  broadcastTo S1040x256 (firstRowRow x) broadcasts_S1x256_S1040x256

/-- The mark on each column's first greatest entry. -/
def pick (x : FVec Ideal S1040x256 .f32) : IVec S1040x256 1 := cmpi .eq rows (firstRowAll x)

/-- The array with the marked entries overwritten with −1. -/
def next (x : FVec Ideal S1040x256 .f32) : FVec Ideal S1040x256 .f32 :=
  select (pick x) (broadcast S1040x256 (Scalar.ofBits .f32 0xBF800000#32)) x

/-- The array after `r` rounds. -/
def rounds : ℕ → FVec Ideal S1040x256 .f32 → FVec Ideal S1040x256 .f32
  | 0, x => x
  | r + 1, x => rounds r (next x)

/-- The marks gathered by `r` rounds on top of `m`. -/
def marks : ℕ → IVec S1040x256 1 → FVec Ideal S1040x256 .f32 → IVec S1040x256 1
  | 0, m, _ => m
  | r + 1, m, x => marks r (ori m (pick x)) (next x)

/-- The weight of each frequency: 1/2048 for 0 and 1024, and 2/2048 for the others. -/
def weight : FVec Ideal S1040x256 .f32 :=
  select (ori (cmpi .eq rows (broadcast S1040x256 0#32)) (cmpi .eq rows (broadcast S1040x256 1024#32)))
    (broadcast S1040x256 (Scalar.ofBits .f32 0x3A000000#32)) (broadcast S1040x256 (Scalar.ofBits .f32 0x3A800000#32))

/-- The coefficients under a mask: the weight where it is set, and zero elsewhere. -/
def coef (m : IVec S1040x256 1) : FVec Ideal S1040x256 .f32 :=
  select m weight (broadcast S1040x256 (Scalar.ofBits .f32 0x00000000#32))

/-! ## One round, entry by entry -/

/-- Column `j` of an array. -/
def col (x : FVec Ideal S1040x256 .f32) (j : Fin 256) : Fin 1040 → EReal := fun f => x (ix2 f j)

/-- The word that a maximum starts from is −∞. -/
theorem ofBits_neg_inf : Ideal.ofBits FTy.f32 0xFF800000#32 = ⊥ := by simp [Ideal.ofBits, Ideal.ieee]

/-- The word that overwrites a chosen entry is −1. -/
theorem ofBits_neg_one : Ideal.ofBits FTy.f32 0xBF800000#32 = -1 := by
  rw [show (-1 : EReal) = ((-(1 : ℝ) : ℝ) : EReal) by rw [EReal.coe_neg, EReal.coe_one]]
  simp [Ideal.ofBits, Ideal.ieee, -EReal.coe_mul, -EReal.coe_neg]; norm_num

/-- A fold of the greater of two from −∞ over all positions is the entry at the first greatest one. -/
theorem fold_max (x : Fin 1040 → EReal) (w : Fin 1040) (hw : IsFirst x w) :
    Finset.fold max (Ideal.ofBits FTy.f32 0xFF800000#32) x Finset.univ = x w := by
  rw [ofBits_neg_inf]
  exact le_antisymm ((Finset.fold_max_le _).mpr ⟨bot_le, fun g _ => hw.1 g⟩)
    ((Finset.le_fold_max _).mpr (.inr ⟨w, Finset.mem_univ _, le_rfl⟩))

/-- A fold of the signed minimum is at most each word folded, and is the start or one of them. -/
theorem fold_min_spec (z : BitVec 32) (c : Fin 1040 → BitVec 32) (S : Finset (Fin 1040)) :
    (∀ g ∈ S, (S.fold IntOp.minsi z c).toInt ≤ (c g).toInt) ∧
      (S.fold IntOp.minsi z c = z ∨ ∃ g ∈ S, S.fold IntOp.minsi z c = c g) := by
  classical
  induction S using Finset.induction_on with
  | empty => exact ⟨fun g hg => absurd hg (Finset.notMem_empty g), .inl (Finset.fold_empty ..)⟩
  | insert a S ha ih =>
    rw [Finset.fold_insert ha]
    obtain ⟨h1, h2⟩ := ih
    refine ⟨fun g hg => ?_, ?_⟩
    · rw [SortNet.toInt_minsi]
      rcases Finset.mem_insert.mp hg with rfl | hg
      · exact min_le_left _ _
      · exact (min_le_right _ _).trans (h1 g hg)
    · have h : ∀ p q : BitVec 32, IntOp.minsi p q = p ∨ IntOp.minsi p q = q := fun p q => by
        unfold IntOp.minsi; split <;> simp
      rcases h (c a) (S.fold IntOp.minsi z c) with e | e
      · exact .inr ⟨a, Finset.mem_insert_self _ _, e⟩
      · rw [e]
        rcases h2 with h2 | ⟨g, hg, h2⟩
        · exact .inl h2
        · exact .inr ⟨g, Finset.mem_insert_of_mem hg, h2⟩

/-- A row number's word, read signed, is the row number. -/
theorem toInt_row (g : Fin 1040) : (BitVec.ofNat 32 g.val).toInt = g.val := by
  have := g.isLt
  rw [BitVec.toInt_eq_toNat_of_lt] <;> simp only [BitVec.toNat_ofNat] <;> omega

open Classical in
/-- The least row number among the greatest entries is the first greatest entry's. -/
theorem fold_first (x : Fin 1040 → EReal) (w : Fin 1040) (hw : IsFirst x w) :
    Finset.fold IntOp.minsi (2147483647#32) (fun g => if x g = x w then BitVec.ofNat 32 g.val else 1040#32)
      Finset.univ = BitVec.ofNat 32 w.val := by
  have hlt := w.isLt
  obtain ⟨h1, h2⟩ := fold_min_spec 2147483647#32 (fun g => if x g = x w then BitVec.ofNat 32 g.val else 1040#32) Finset.univ
  have h1 := h1 w (Finset.mem_univ _)
  rw [if_pos rfl, toInt_row] at h1
  rcases h2 with h2 | ⟨g, -, h2⟩
  · rw [h2] at h1
    exact absurd h1 (by rw [show (2147483647#32).toInt = 2147483647 from rfl]; omega)
  · rw [h2] at h1 ⊢
    by_cases hg : x g = x w
    · simp only [if_pos hg] at h1 ⊢
      rw [toInt_row] at h1
      have := hw.2 g hg
      rw [show g = w from le_antisymm (by exact_mod_cast h1) this]
    · simp only [if_neg hg] at h1
      exact absurd h1 (by rw [show (1040#32).toInt = 1040 from rfl]; omega)

/-- The spread column maxima hold the first greatest entry's value. -/
theorem colMaxAll_apply (x : FVec Ideal S1040x256 .f32) (f : Fin 1040) (j : Fin 256) (w : Fin 1040)
    (hw : IsFirst (col x j) w) : colMaxAll x (ix2 f j) = col x j w := by
  rw [← fold_max _ w hw]
  pointwise [colMaxAll, colMaxRow, colMax]
  rfl

open Classical in
/-- The mark of a round: set on each column's first greatest entry and nowhere else. -/
theorem pick_apply (x : FVec Ideal S1040x256 .f32) (f : Fin 1040) (j : Fin 256) :
    pick x (ix2 f j) = if IsFirst (col x j) f then 1#1 else 0#1 := by
  obtain ⟨w, hw⟩ := exists_isFirst (col x j) (by decide)
  pointwise [pick, firstRowAll, firstRowRow, firstRow, maxRows, isMax, rows]
  simp only [colMaxAll_apply x _ j w hw]
  rw [show Finset.fold IntOp.minsi (2147483647#32) (fun g : Fin 1040 => if x (ix2 g j) = col x j w then BitVec.ofNat 32 ↑g
    else 1040#32) Finset.univ = _ from fold_first (col x j) w hw]
  by_cases h : f = w
  · subst h
    rw [if_pos hw]
    simp [IntOp.cmpi]
  · rw [if_neg fun hf => h (isFirst_unique hf hw)]
    have hne : BitVec.ofNat 32 f.val ≠ BitVec.ofNat 32 w.val := fun e => h (Fin.ext (by
      have := congrArg BitVec.toInt e
      rw [toInt_row, toInt_row] at this
      exact_mod_cast this))
    show BitVec.ofBool (BitVec.ofNat 32 f.val == BitVec.ofNat 32 w.val) = 0#1
    rw [beq_eq_false_iff_ne.mpr hne]; rfl

open Classical in
/-- The array after a round: the first greatest entry of each column is −1, the others are kept. -/
theorem next_apply (x : FVec Ideal S1040x256 .f32) (j : Fin 256) : col (next x) j = strike (col x j) := by
  funext f
  show next x (ix2 f j) = _
  pointwise [next]
  rw [pick_apply, ofBits_neg_one]
  unfold strike
  by_cases h : IsFirst (col x j) f
  · rw [if_pos h, if_pos h]; rfl
  · rw [if_neg h, if_neg h]; rfl

/-- The array after `r` rounds, column by column. -/
theorem rounds_apply (r : ℕ) (x : FVec Ideal S1040x256 .f32) (j : Fin 256) :
    col (rounds r x) j = strike^[r] (col x j) := by
  induction r generalizing x with
  | zero => rfl
  | succ r ih => rw [Function.iterate_succ_apply, ← next_apply]; exact ih (next x)

/-- One more round adds its marks. -/
theorem marks_succ (r : ℕ) (m : IVec S1040x256 1) (x : FVec Ideal S1040x256 .f32) :
    marks (r + 1) m x = ori (marks r m x) (pick (rounds r x)) := by
  induction r generalizing m x with
  | zero => rfl
  | succ r ih => exact ih (ori m (pick x)) (next x)

open Classical in
/-- The marks gathered by `r` rounds are on the entries chosen in one of them. -/
theorem marks_apply (r : ℕ) (x : FVec Ideal S1040x256 .f32) (f : Fin 1040) (j : Fin 256) :
    marks r (broadcast S1040x256 0#1) x (ix2 f j) = if Picked (col x j) r f then 1#1 else 0#1 := by
  induction r with
  | zero => exact (if_neg id).symm
  | succ r ih =>
    rw [marks_succ]
    pointwise
    rw [ih, pick_apply, rounds_apply]
    by_cases h1 : Picked (col x j) r f <;> by_cases h2 : IsFirst (strike^[r] (col x j)) f <;> simp [Picked, h1, h2, IntOp.ori]

open Classical in
/-- The coefficient of an entry after 32 rounds on a column without negative entries: its weight when fewer than 32
    entries are ahead of it, and zero otherwise. -/
theorem coef_apply (x : FVec Ideal S1040x256 .f32) (f : Fin 1040) (j : Fin 256) (h : ∀ g, 0 ≤ col x j g) :
    coef (marks 32 (broadcast S1040x256 0#1) x) (ix2 f j) = if rank (col x j) f < 32 then weight (ix2 f j) else 0 := by
  pointwise [coef]
  rw [marks_apply]
  simp only [picked_iff _ h 32 (by decide) f]
  by_cases hf : rank (col x j) f < 32
  · rw [if_pos hf, if_pos hf]; rfl
  · rw [if_neg hf, if_neg hf]; rfl

/-- The weight of frequency `f`. -/
theorem weight_apply (f : Fin 1040) (j : Fin 256) :
    weight (ix2 f j) = if f.val = 0 ∨ f.val = 1024 then Ideal.ofBits .f32 0x3A000000#32 else Ideal.ofBits .f32 0x3A800000#32 := by
  pointwise [weight, rows]
  have key : ∀ c : ℕ, c < 1040 → IntOp.cmpi .eq (BitVec.ofNat 32 f.val) (BitVec.ofNat 32 c) = BitVec.ofBool (decide (f.val = c)) := by
    intro c hc
    have := f.isLt
    show BitVec.ofBool (BitVec.ofNat 32 f.val == BitVec.ofNat 32 c) = _
    refine congrArg BitVec.ofBool (Bool.eq_iff_iff.mpr ?_)
    rw [beq_iff_eq, decide_eq_true_iff]
    refine ⟨fun e => ?_, fun e => by rw [e]⟩
    have := congrArg BitVec.toNat e
    simp only [BitVec.toNat_ofNat] at this
    omega
  rw [key 0 (by decide), key 1024 (by decide)]
  by_cases h0 : f.val = 0 <;> by_cases h1 : f.val = 1024 <;> simp [h0, h1, IntOp.ori, Scalar.select]

end Cert.Proof.Rounds
-- ==== Proof.Payloads.lean ====
/- The payloads of the printed transform kernel are selection rounds: each part of the body runs three or four of them,
   and the last part forms the coefficients from the marks of all 32. -/
module

public import proofs.«01_k».proof.Proof.Rounds
public import proofs.«01_k».proof.Proof.Gen.KernelIdeal.Frame

@[expose] public section

noncomputable section

namespace Cert.Proof.Rounds

open Idealize.ShloMosaic Cert.KernelIdeal Cert.KernelIdeal.Gen

/-! ## The printed payloads are rounds -/

/-- The first part of the body runs two rounds on the squared amplitudes. This and the next theorems name what each part
    of the body hands on: the entries left, the marks, and, where a part ends within a round, the step that it stopped at. -/
theorem pay10_eq (v0 v2 v5) : k1_pay10 (F := Ideal) v0 v2 v5 = rounds 2 (k1_pay5 v0 v2 v5) := rfl
theorem pay9_eq (v0 v2 v5) :
    k1_pay9 (F := Ideal) v0 v2 v5 = marks 2 (broadcast S1040x256 0#1) (k1_pay5 v0 v2 v5) := rfl
theorem pay16_eq (m x) : k1_pay16 (F := Ideal) rows m x = marks 3 m x := rfl
theorem pay17_eq (x) : k1_pay17 (F := Ideal) rows x = rounds 3 x := rfl
theorem pay18_eq (x) : k1_pay18 (F := Ideal) rows x = firstRow (rounds 3 x) := rfl
theorem pay26_eq (m x) : k1_pay26 (F := Ideal) rows m x (firstRow x) = marks 4 m x := rfl
theorem pay27_eq (x) : k1_pay27 (F := Ideal) rows x (firstRow x) = rounds 4 x := rfl
theorem pay28_eq (x) : k1_pay28 (F := Ideal) rows x (firstRow x) = colMax (rounds 4 x) := rfl
theorem pay34_eq (m x) : k1_pay34 (F := Ideal) rows m x (colMax x) = marks 3 m x := rfl
theorem pay35_eq (x) : k1_pay35 (F := Ideal) rows x (colMax x) = rounds 3 x := rfl
theorem pay36_eq (x) : k1_pay36 (F := Ideal) rows x (colMax x) = firstRowRow (rounds 3 x) := rfl
theorem pay44_eq (m x) : k1_pay44 (F := Ideal) rows m x (firstRowRow x) = marks 4 m x := rfl
theorem pay45_eq (x) : k1_pay45 (F := Ideal) rows x (firstRowRow x) = rounds 4 x := rfl
theorem pay46_eq (x) : k1_pay46 (F := Ideal) rows x (firstRowRow x) = colMaxRow (rounds 4 x) := rfl
theorem pay52_eq (m x) : k1_pay52 (F := Ideal) rows m x (colMaxRow x) = marks 3 m x := rfl
theorem pay53_eq (x) : k1_pay53 (F := Ideal) rows x (colMaxRow x) = rounds 3 x := rfl
theorem pay54_eq (x) : k1_pay54 (F := Ideal) rows x (colMaxRow x) = firstRowAll (rounds 3 x) := rfl
theorem pay62_eq (m x) : k1_pay62 (F := Ideal) rows m x (firstRowAll x) = marks 4 m x := rfl
theorem pay63_eq (x) : k1_pay63 (F := Ideal) rows x (firstRowAll x) = rounds 4 x := rfl
theorem pay64_eq (x) : k1_pay64 (F := Ideal) rows x (firstRowAll x) = colMaxAll (rounds 4 x) := rfl
theorem pay70_eq (m x) : k1_pay70 (F := Ideal) rows m x (colMaxAll x) = marks 3 m x := rfl
theorem pay71_eq (x) : k1_pay71 (F := Ideal) rows x (colMaxAll x) = rounds 3 x := rfl
theorem pay72_eq (x) : k1_pay72 (F := Ideal) rows x (colMaxAll x) = pick (rounds 3 x) := rfl
theorem pay79_eq (m x) : k1_pay79 (F := Ideal) rows m x (pick x) = marks 4 m x := rfl
theorem pay80_eq (x) : k1_pay80 (F := Ideal) rows x (pick x) = rounds 4 x := rfl
theorem pay81_eq (x) : k1_pay81 (F := Ideal) rows x (pick x) = isMax (rounds 4 x) := rfl

/-- The last part forms the coefficients from the marks after its two rounds. -/
theorem pay82_eq (m x) : k1_pay82 (F := Ideal) rows m x (isMax x) = coef (marks 2 m x) := rfl

/-- Rounds run one after another add up. -/
theorem rounds_rounds (a b : ℕ) (x) : rounds a (rounds b x) = rounds (b + a) x := by
  induction b generalizing x with
  | zero => rw [Nat.zero_add]; rfl
  | succ b ih => rw [Nat.add_right_comm]; exact ih (next x)

/-- So do their marks. -/
theorem marks_marks (a b : ℕ) (m x) : marks a (marks b m x) (rounds b x) = marks (b + a) m x := by
  induction b generalizing m x with
  | zero => rw [Nat.zero_add]; rfl
  | succ b ih => rw [Nat.add_right_comm]; exact ih (ori m (pick x)) (next x)

/-! ## The values of the body, from its operands' blocks -/

section Body

variable (x0 x1 : Vec Ideal S1040x2048 .f32) (x2 : Vec Ideal S1x2048x256 .f32)

/-- The squared amplitudes of a block: the array the rounds begin with. -/
def amp : FVec Ideal S1040x256 .f32 := k1_pay5 (View.ld x2 r1_0) (View.ld x0 r1_1) (View.ld x1 r1_1)

/-- The starting mask: nothing is marked. -/
def none : IVec S1040x256 1 := broadcast S1040x256 0#1

/-- After the first part two rounds are done. The next theorems say the same of the later parts, by the part before. -/
theorem val86_eq : k1_pay86 x0 x1 x2 = rounds 2 (amp x0 x1 x2) := pay10_eq _ _ _

theorem val87_eq : k1_pay87 x0 x1 x2 = rounds 5 (amp x0 x1 x2) := by
  show k1_pay17 rows (k1_pay86 x0 x1 x2) = _
  rw [val86_eq, pay17_eq, rounds_rounds]

theorem val88_eq : k1_pay88 x0 x1 x2 = firstRow (rounds 5 (amp x0 x1 x2)) := by
  show k1_pay18 rows (k1_pay86 x0 x1 x2) = _
  rw [val86_eq, pay18_eq, rounds_rounds]

theorem val89_eq : k1_pay89 x0 x1 x2 = rounds 9 (amp x0 x1 x2) := by
  show k1_pay27 rows (k1_pay87 x0 x1 x2) (k1_pay88 x0 x1 x2) = _
  rw [val87_eq, val88_eq, pay27_eq, rounds_rounds]

theorem val90_eq : k1_pay90 x0 x1 x2 = colMax (rounds 9 (amp x0 x1 x2)) := by
  show k1_pay28 rows (k1_pay87 x0 x1 x2) (k1_pay88 x0 x1 x2) = _
  rw [val87_eq, val88_eq, pay28_eq, rounds_rounds]

theorem val91_eq : k1_pay91 x0 x1 x2 = rounds 12 (amp x0 x1 x2) := by
  show k1_pay35 rows (k1_pay89 x0 x1 x2) (k1_pay90 x0 x1 x2) = _
  rw [val89_eq, val90_eq, pay35_eq, rounds_rounds]

theorem val92_eq : k1_pay92 x0 x1 x2 = firstRowRow (rounds 12 (amp x0 x1 x2)) := by
  show k1_pay36 rows (k1_pay89 x0 x1 x2) (k1_pay90 x0 x1 x2) = _
  rw [val89_eq, val90_eq, pay36_eq, rounds_rounds]

theorem val93_eq : k1_pay93 x0 x1 x2 = rounds 16 (amp x0 x1 x2) := by
  show k1_pay45 rows (k1_pay91 x0 x1 x2) (k1_pay92 x0 x1 x2) = _
  rw [val91_eq, val92_eq, pay45_eq, rounds_rounds]

theorem val94_eq : k1_pay94 x0 x1 x2 = colMaxRow (rounds 16 (amp x0 x1 x2)) := by
  show k1_pay46 rows (k1_pay91 x0 x1 x2) (k1_pay92 x0 x1 x2) = _
  rw [val91_eq, val92_eq, pay46_eq, rounds_rounds]

theorem val95_eq : k1_pay95 x0 x1 x2 = rounds 19 (amp x0 x1 x2) := by
  show k1_pay53 rows (k1_pay93 x0 x1 x2) (k1_pay94 x0 x1 x2) = _
  rw [val93_eq, val94_eq, pay53_eq, rounds_rounds]

theorem val96_eq : k1_pay96 x0 x1 x2 = firstRowAll (rounds 19 (amp x0 x1 x2)) := by
  show k1_pay54 rows (k1_pay93 x0 x1 x2) (k1_pay94 x0 x1 x2) = _
  rw [val93_eq, val94_eq, pay54_eq, rounds_rounds]

theorem val97_eq : k1_pay97 x0 x1 x2 = rounds 23 (amp x0 x1 x2) := by
  show k1_pay63 rows (k1_pay95 x0 x1 x2) (k1_pay96 x0 x1 x2) = _
  rw [val95_eq, val96_eq, pay63_eq, rounds_rounds]

theorem val98_eq : k1_pay98 x0 x1 x2 = colMaxAll (rounds 23 (amp x0 x1 x2)) := by
  show k1_pay64 rows (k1_pay95 x0 x1 x2) (k1_pay96 x0 x1 x2) = _
  rw [val95_eq, val96_eq, pay64_eq, rounds_rounds]

theorem val99_eq : k1_pay99 x0 x1 x2 = rounds 26 (amp x0 x1 x2) := by
  show k1_pay71 rows (k1_pay97 x0 x1 x2) (k1_pay98 x0 x1 x2) = _
  rw [val97_eq, val98_eq, pay71_eq, rounds_rounds]

theorem val100_eq : k1_pay100 x0 x1 x2 = pick (rounds 26 (amp x0 x1 x2)) := by
  show k1_pay72 rows (k1_pay97 x0 x1 x2) (k1_pay98 x0 x1 x2) = _
  rw [val97_eq, val98_eq, pay72_eq, rounds_rounds]

theorem val102_eq : k1_pay102 x0 x1 x2 = rounds 30 (amp x0 x1 x2) := by
  show k1_pay80 rows (k1_pay99 x0 x1 x2) (k1_pay100 x0 x1 x2) = _
  rw [val99_eq, val100_eq, pay80_eq, rounds_rounds]

theorem val103_eq : k1_pay103 x0 x1 x2 = isMax (rounds 30 (amp x0 x1 x2)) := by
  show k1_pay81 rows (k1_pay99 x0 x1 x2) (k1_pay100 x0 x1 x2) = _
  rw [val99_eq, val100_eq, pay81_eq, rounds_rounds]

theorem val101_eq : k1_pay101 x0 x1 x2 = marks 30 none (amp x0 x1 x2) := by
  show k1_pay79 rows (k1_pay70 rows (k1_pay62 rows (k1_pay52 rows (k1_pay44 rows (k1_pay34 rows (k1_pay26 rows
    (k1_pay16 rows (k1_pay9 _ _ _) _) _ _) _ _) _ _) _ _) _ _) _ _) _ _ = _
  rw [val86_eq, val87_eq, val88_eq, val89_eq, val90_eq, val91_eq, val92_eq, val93_eq, val94_eq, val95_eq, val96_eq,
    val97_eq, val98_eq, val99_eq, val100_eq, pay79_eq, pay70_eq, pay62_eq, pay52_eq, pay44_eq, pay34_eq, pay26_eq,
    pay16_eq, pay9_eq]
  show marks 4 (marks 3 (marks 4 (marks 3 (marks 4 (marks 3 (marks 4 (marks 3 (marks 2 none (amp x0 x1 x2)) _) _) _) _) _) _) _) _ = _
  simp only [marks_marks]

/-- The coefficients of a block are those of the marks of 32 rounds on its squared amplitudes. -/
theorem coef_eq : k1_pay82 (k1_pay85 x0 x1 x2) (k1_pay101 x0 x1 x2) (k1_pay102 x0 x1 x2) (k1_pay103 x0 x1 x2) =
    coef (marks 32 none (amp x0 x1 x2)) := by
  show k1_pay82 rows _ _ _ = _
  rw [val101_eq, val102_eq, val103_eq, pay82_eq, marks_marks]

end Body

end Cert.Proof.Rounds
-- ==== Proof.Call1.lean ====
/- The transform kernel: what its two output arrays hold after the call. -/
module

public import proofs.«01_k».proof.Proof.Gen.KernelIdeal.Frame
public import proofs.«01_k».proof.Proof.Payloads
public import Idealize.ShloMosaic.Lib.Pipeline.ValueKit

@[expose] public section

set_option maxRecDepth 16384

noncomputable section

namespace Cert.Proof.Call1

open Idealize.ShloMosaic Idealize.ShloMosaic.TcCoe Cert.KernelIdeal Cert.KernelIdeal.Gen Cert.Proof.Select Cert.Proof.Rounds

variable (V : (c : Dev nD) → (b : Ref sig .tc) → Buf (Elt Ideal) ((c : Thread nD τ).loc b))

/-! ## What one block computes -/

/-- One frequency of one column of a block: the sum over the positions of a basis row with the column. -/
def bdft (B : FVec Ideal S1040x2048 .f32) (h : FVec Ideal S1x2048x256 .f32) (f : Fin 1040) (j : Fin 256) : EReal :=
  ∑ s : Fin 2048, B (ix2 f s) * h (ix3 0 s j)

/-- The block's products with the first basis array are the cosine sums. -/
theorem pay3_apply (h : Vec Ideal S1x2048x256 .f32) (B : Vec Ideal S1040x2048 .f32) (f : Fin 1040) (j : Fin 256) :
    k1_pay3 h B (ix2 f j) = bdft B h f j := by
  unfold bdft
  pointwise [k1_pay3, k1_pay2]

/-- The block's products with the second basis array are the sine sums. -/
theorem pay4_apply (h : Vec Ideal S1x2048x256 .f32) (B : Vec Ideal S1040x2048 .f32) (f : Fin 1040) (j : Fin 256) :
    k1_pay4 h B (ix2 f j) = bdft B h f j := by
  unfold bdft
  pointwise [k1_pay4, k1_pay2]

/-- The squared amplitude of one frequency of one column. -/
theorem amp_apply (x0 x1 : Vec Ideal S1040x2048 .f32) (x2 : Vec Ideal S1x2048x256 .f32) (j : Fin 256) :
    col (amp x0 x1 x2) j = fun f => bdft x0 x2 f j * bdft x0 x2 f j + bdft x1 x2 f j * bdft x1 x2 f j := by
  funext f
  show amp x0 x1 x2 (ix2 f j) = _
  rw [← pay3_apply x2 x0, ← pay4_apply x2 x1]
  unfold amp
  frame_out
  rfl

/-- A square is not negative. -/
theorem mul_self_nonneg' (x : EReal) : 0 ≤ x * x := by
  rcases le_total 0 x with h | h
  · exact EReal.mul_nonneg_iff.mpr (.inl ⟨h, h⟩)
  · exact EReal.mul_nonneg_iff.mpr (.inr ⟨h, h⟩)

/-- The weight of frequency `f`: the word of 1/2048 for 0 and 1024, that of 2/2048 for the others. -/
def wt (f : ℕ) : EReal := if f = 0 ∨ f = 1024 then Ideal.ofBits .f32 0x3A000000#32 else Ideal.ofBits .f32 0x3A800000#32

open Classical in
/-- The coefficient of frequency `f` of a column of squared amplitudes: its weight when fewer than 32 frequencies are
    ahead of it, and zero otherwise. -/
def keep {n : ℕ} (a : Fin n → EReal) (f : Fin n) : EReal := if rank a f < 32 then wt f.val else 0

/-- The coefficients that the block computes: the weights of the kept frequencies, and zero elsewhere. -/
theorem coefs_apply (x0 x1 : Vec Ideal S1040x2048 .f32) (x2 : Vec Ideal S1x2048x256 .f32) (f : Fin 1040) (j : Fin 256) :
    k1_pay82 (k1_pay85 x0 x1 x2) (k1_pay101 x0 x1 x2) (k1_pay102 x0 x1 x2) (k1_pay103 x0 x1 x2) (ix2 f j) =
      keep (fun f => bdft x0 x2 f j * bdft x0 x2 f j + bdft x1 x2 f j * bdft x1 x2 f j) f := by
  rw [coef_eq]
  refine (coef_apply _ f j fun g => ?_).trans ?_
  · rw [amp_apply]
    exact add_nonneg (mul_self_nonneg' _) (mul_self_nonneg' _)
  · rw [amp_apply, weight_apply]
    rfl

/-! ## What the arrays hold -/

/-- Frequency `f` of column `h` of batch entry `b`: the sum over the positions of a basis row with the column. -/
def dft (B : FVec Ideal S1040x2048 .f32) (x : FVec Ideal S4x2048x1024 .f32) (b : Fin 4) (f : Fin 1040) (h : Fin 1024) :
    EReal := ∑ s : Fin 2048, B (ix2 f s) * x (ix3 b s h)

/-- The squared amplitudes of column `h` of batch entry `b`. -/
def power (C S : FVec Ideal S1040x2048 .f32) (x : FVec Ideal S4x2048x1024 .f32) (b : Fin 4) (h : Fin 1024) (f : Fin 1040) :
    EReal := dft C x b f h * dft C x b f h + dft S x b f h * dft S x b f h

/-- The block index of every window at a grid point. -/
theorem idx : ∀ t : Fin cfg1.N, win1_0.index t = ![0, 0] ∧ win1_1.index t = ![0, 0] ∧
    win1_2.index t = ![(grid1.coords t 0).val, 0, (grid1.coords t 1).val] ∧
    win1_3.index t = ![(grid1.coords t 0).val, 0, (grid1.coords t 1).val] ∧
    win1_4.index t = ![(grid1.coords t 0).val, 0, (grid1.coords t 1).val] :=
  (by decide +kernel : ∀ t : Fin grid1.N, _)

/-- The columns of the block at a point are columns of the array. -/
theorem bdft_blk0 (c : Dev nD) (t : Fin cfg1.N) (f : Fin 1040) (j : Fin 256) (b : Fin 4) (h : Fin 1024)
    (hb : b.val = (grid1.coords t 0).val) (hh : h.val = (grid1.coords t 1).val * 256 + j.val) :
    bdft (iblk1 V c 0 t) (iblk1 V c 2 t) f j = dft (V c main_v16) (V c main_v24) b f h := by
  unfold bdft dft
  blk_point [iblk1, idx t]

/-- The same for the second basis array. -/
theorem bdft_blk1 (c : Dev nD) (t : Fin cfg1.N) (f : Fin 1040) (j : Fin 256) (b : Fin 4) (h : Fin 1024)
    (hb : b.val = (grid1.coords t 0).val) (hh : h.val = (grid1.coords t 1).val * 256 + j.val) :
    bdft (iblk1 V c 1 t) (iblk1 V c 2 t) f j = dft (V c main_v19) (V c main_v24) b f h := by
  unfold bdft dft
  blk_point [iblk1, idx t]

/-- Where an entry of the first output block lies in its array. -/
theorem place3 (t : Fin cfg1.N) (y : S1x1040x256.Idx) : ∃ (b : Fin 4) (f : Fin 1040) (h : Fin 1024) (j : Fin 256),
    y = ix3 0 f j ∧ ((View.whole main_v25_0).slice (win1_3.rect t)).emb y = ix3 b f h ∧
    b.val = (grid1.coords t 0).val ∧ h.val = (grid1.coords t 1).val * 256 + j.val := by
  have h0 := (y 0).isLt
  have e0 : y 0 = (0 : Fin 1) := Subsingleton.elim (α := Fin 1) _ _
  refine ⟨((View.whole main_v25_0).slice (win1_3.rect t)).emb y 0, y 1, ((View.whole main_v25_0).slice (win1_3.rect t)).emb y 2, y 2,
    (eq_ix3 y).trans (by rw [e0]), (eq_ix3 (n0 := 4) (n1 := 1040) (n2 := 1024) _).trans ?_, ?_, ?_⟩
  · refine congrArg (fun f => ix3 _ f _) (Fin.ext ?_)
    blk_simp [idx t]
  · blk_simp [idx t]
  · blk_simp [idx t]

/-- Where an entry of the second output block lies in its array. -/
theorem place4 (t : Fin cfg1.N) (y : S1x1040x256.Idx) : ∃ (b : Fin 4) (f : Fin 1040) (h : Fin 1024) (j : Fin 256),
    y = ix3 0 f j ∧ ((View.whole main_v25_1).slice (win1_4.rect t)).emb y = ix3 b f h ∧
    b.val = (grid1.coords t 0).val ∧ h.val = (grid1.coords t 1).val * 256 + j.val := by
  have h0 := (y 0).isLt
  have e0 : y 0 = (0 : Fin 1) := Subsingleton.elim (α := Fin 1) _ _
  refine ⟨((View.whole main_v25_1).slice (win1_4.rect t)).emb y 0, y 1, ((View.whole main_v25_1).slice (win1_4.rect t)).emb y 2, y 2,
    (eq_ix3 y).trans (by rw [e0]), (eq_ix3 (n0 := 4) (n1 := 1040) (n2 := 1024) _).trans ?_, ?_, ?_⟩
  · refine congrArg (fun f => ix3 _ f _) (Fin.ext ?_)
    blk_simp [idx t]
  · blk_simp [idx t]
  · blk_simp [idx t]

/-- The array of kept coefficients: at every frequency the basis `B`'s sum times the coefficient that the squared
    amplitudes give. -/
def kept (B C S : FVec Ideal S1040x2048 .f32) (x : FVec Ideal S4x2048x1024 .f32) : FVec Ideal S4x1040x1024 .f32 :=
  fun i => keep (power C S x (i 0) (i 2)) (i 1) * dft B x (i 0) (i 1) (i 2)

/-- What a point leaves in the first output block is the array of kept coefficients at the block's place. -/
theorem point3 (c : Dev nD) (t : Fin cfg1.N) (b : Fin 4) (f : Fin 1040) (h : Fin 1024) (j : Fin 256)
    (hb : b.val = (grid1.coords t 0).val) (hh : h.val = (grid1.coords t 1).val * 256 + j.val) :
    k1_pay83 (k1_pay3 (iblk1 V c 2 t) (iblk1 V c 0 t)) (k1_pay85 (iblk1 V c 0 t) (iblk1 V c 1 t) (iblk1 V c 2 t))
      (k1_pay101 (iblk1 V c 0 t) (iblk1 V c 1 t) (iblk1 V c 2 t)) (k1_pay102 (iblk1 V c 0 t) (iblk1 V c 1 t) (iblk1 V c 2 t))
      (k1_pay103 (iblk1 V c 0 t) (iblk1 V c 1 t) (iblk1 V c 2 t)) (ix3 0 f j) = kept (V c main_v16) (V c main_v16) (V c main_v19) (V c main_v24) (ix3 b f h) := by
  unfold kept power
  pointwise [k1_pay83]
  rw [coefs_apply, pay3_apply]
  simp only [bdft_blk0 V c t _ _ _ _ hb hh, bdft_blk1 V c t _ _ _ _ hb hh]

/-- After the call the first output array holds the kept cosine coefficients. -/
theorem arr3 (c : Dev nD) : (dat1 V c).arrAt 3 cfg1.N = kept (V c main_v16) (V c main_v16) (V c main_v19) (V c main_v24) := by
  refine (dat1 V c).arrAt_eq_of_covers 3 _ (by decide +kernel) fun t hf y => ?_
  blk_simp
  rw [after1_3]
  frame_out
  obtain ⟨b, f, h, j, ey, ei, hb, hh⟩ := place3 t y
  exact (congrArg _ ey).trans ((point3 V c t b f h j hb hh).trans (congrArg _ ei.symm))

/-- What a point leaves in the second output block is the array of kept coefficients at the block's place. -/
theorem point4 (c : Dev nD) (t : Fin cfg1.N) (b : Fin 4) (f : Fin 1040) (h : Fin 1024) (j : Fin 256)
    (hb : b.val = (grid1.coords t 0).val) (hh : h.val = (grid1.coords t 1).val * 256 + j.val) :
    k1_pay1 (k1_pay84 (k1_pay4 (iblk1 V c 2 t) (iblk1 V c 1 t)) (k1_pay85 (iblk1 V c 0 t) (iblk1 V c 1 t) (iblk1 V c 2 t))
      (k1_pay101 (iblk1 V c 0 t) (iblk1 V c 1 t) (iblk1 V c 2 t)) (k1_pay102 (iblk1 V c 0 t) (iblk1 V c 1 t) (iblk1 V c 2 t))
      (k1_pay103 (iblk1 V c 0 t) (iblk1 V c 1 t) (iblk1 V c 2 t))) (ix3 0 f j) = kept (V c main_v19) (V c main_v16) (V c main_v19) (V c main_v24) (ix3 b f h) := by
  unfold kept power
  pointwise [k1_pay1, k1_pay84]
  rw [coefs_apply, pay4_apply]
  simp only [bdft_blk0 V c t _ _ _ _ hb hh, bdft_blk1 V c t _ _ _ _ hb hh]

/-- After the call the second output array holds the kept sine coefficients. -/
theorem arr4 (c : Dev nD) : (dat1 V c).arrAt 4 cfg1.N = kept (V c main_v19) (V c main_v16) (V c main_v19) (V c main_v24) := by
  refine (dat1 V c).arrAt_eq_of_covers 4 _ (by decide +kernel) fun t hf y => ?_
  blk_simp
  rw [after1_4]
  frame_out
  obtain ⟨b, f, h, j, ey, ei, hb, hh⟩ := place4 t y
  exact (congrArg _ ey).trans ((point4 V c t b f h j hb hh).trans (congrArg _ ei.symm))

end Cert.Proof.Call1
-- ==== Proof.Call2.lean ====
/- The synthesis kernel: what its output array holds after the call. -/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Proof.Call2

open Idealize.ShloMosaic Idealize.ShloMosaic.TcCoe Cert.KernelIdeal Cert.KernelIdeal.Gen

variable (V : (c : Dev nD) → (b : Ref sig .tc) → Buf (Elt Ideal) ((c : Thread nD τ).loc b))

/-- The synthesis: for every position the sum over the frequencies of the cosine basis with the first coefficients, and
    that of the sine basis with the second. -/
def synth (ct st : FVec Ideal S2048x1040 .f32) (cr ci : FVec Ideal S4x1040x1024 .f32) : FVec Ideal S4x2048x1024 .f32 :=
  fun i => (∑ f : Fin 1040, ct (ix2 (i 1) f) * cr (ix3 (i 0) f (i 2))) +
    ∑ f : Fin 1040, st (ix2 (i 1) f) * ci (ix3 (i 0) f (i 2))

/-- The block index of every window at a grid point. -/
theorem idx : ∀ t : Fin cfg2.N, win2_0.index t = ![(grid2.coords t 1).val, 0] ∧ win2_1.index t = ![(grid2.coords t 1).val, 0] ∧
    win2_2.index t = ![(grid2.coords t 0).val, 0, 0] ∧ win2_3.index t = ![(grid2.coords t 0).val, 0, 0] ∧
    win2_4.index t = ![(grid2.coords t 0).val, (grid2.coords t 1).val, 0] :=
  (by decide +kernel : ∀ t : Fin grid2.N, _)

/-- After the call the output array holds the synthesis of the operands. -/
theorem arr (c : Dev nD) : (dat2 V c).arrAt 4 cfg2.N =
    synth (V c main_v20) (V c main_v21) (V c main_v25_0) (V c main_v25_1) := by
  refine (dat2 V c).arrAt_eq_of_covers 4 _ (by decide +kernel) fun t hf y => ?_
  blk_simp
  rw [after2_4]
  frame_out
  unfold synth
  pointwise [k2_pay1]
  blk_point [iblk2, idx t]

end Cert.Proof.Call2
-- ==== Proof.Basis.lean ====
/- The buffers that the host operations before the first kernel leave. -/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Proof.Basis

open Idealize.ShloMosaic Idealize.ShloMosaic.TcCoe Cert.KernelIdeal Cert.KernelIdeal.Gen

variable (W : Valuation τ sig (Elt Ideal))

/-! ## The remainder, as the host computes it -/

/-- A number in every entry of the array. -/
def spread (c : IVec S_ 32) : IVec S1040x2048 32 := broadcastInDim S1040x2048 ![] bcast_S_S1040x2048 c

/-- The divisor, with 1 in place of 0. -/
def divisor (c : IVec S_ 32) : IVec S_ 32 := select (cmpi .eq c (constantI S_ 32 0#32)) (constantI S_ 32 1#32) c

/-- The truncating remainder of every entry. -/
def trem (a : IVec S1040x2048 32) (c : IVec S_ 32) : IVec S1040x2048 32 := Host.remsi a (spread (divisor c))

/-- The remainder with the divisor's sign: the truncating one, and the divisor added where the two signs differ. -/
def frem (a : IVec S1040x2048 32) (c : IVec S_ 32) : IVec S1040x2048 32 :=
  select (andi (cmpi .ne (cmpi .slt (trem a c) (spread (constantI S_ 32 0#32)))
      (broadcastInDim S1040x2048 ![] bcast_S_S1040x2048 (cmpi .slt (divisor c) (constantI S_ 32 0#32))))
    (cmpi .ne (trem a c) (spread (constantI S_ 32 0#32)))) (addi (trem a c) (spread (divisor c))) (trem a c)

/-- The second stretch leaves the remainders of its product array. -/
theorem second_v7 : StableHlo.after hostOps0_1 W (Proc.devRef .tc main_v7) =
    frem (W (Proc.devRef .tc main_v6)) (W (Proc.devRef .tc main_c)) := by
  after_results
  simp only [StableHlo.TRef.ofBuf_toBuf]
  rfl

/-! ## The first stretch -/

/-- The row numbers, one column of them. -/
def rowCol : IVec S1040x1 32 := broadcastInDim S1040x1 ![0] bcast_S1040_S1040x1_0 (iotaInDim S1040 32 0)

/-- The first stretch leaves the column of row numbers. -/
theorem first_v1 : StableHlo.after hostOps0 W (Proc.devRef .tc main_v1) = rowCol := by
  after_results
  rfl

/-- The first stretch leaves the divisor 2048. -/
theorem first_c : StableHlo.after hostOps0 W (Proc.devRef .tc main_c) = constantI S_ 32 2048#32 := by
  after_results

/-- Row number times column number. -/
def prod : IVec S1040x2048 32 :=
  muli (broadcastInDim S1040x2048 ![0, 1] bcast_S1040x1_S1040x2048_0_1 rowCol)
    (broadcastInDim S1040x2048 ![0, 1] bcast_S1x2048_S1040x2048_0_1
      (broadcastInDim S1x2048 ![1] bcast_S2048_S1x2048_1 (iotaInDim S2048 32 0)))

/-- The first stretch leaves the products of row and column numbers. -/
theorem first_v6 : StableHlo.after hostOps0 W (Proc.devRef .tc main_v6) = prod := by
  after_results
  rfl

/-! ## The third stretch -/

/-- The angles of an array of remainders. -/
def angles (r : IVec S1040x2048 32) : FVec Ideal S1040x2048 .f32 :=
  mulf (sitofp .f32 r) (broadcastInDim S1040x2048 ![] bcast_S_S1040x2048 (constant S_ .f32 0x3B490FDB#32))

/-- One in the rows below 1025 and zero in the others. -/
def valid (k : IVec S1040x1 32) : FVec Ideal S1040x2048 .f32 :=
  broadcastInDim S1040x2048 ![0, 1] bcast_S1040x1_S1040x2048_0_1
    (uitofp .f32 (cmpi .slt k (broadcastInDim S1040x1 ![] bcast_S_S1040x1 (constantI S_ 32 1025#32))))

/-- The third stretch leaves the cosines, zero in the padding rows. -/
theorem third_v16 : StableHlo.after hostOps0_2 W (Proc.devRef .tc main_v16) =
    mulf (Host.cos (angles (W (Proc.devRef .tc main_v7)))) (valid (W (Proc.devRef .tc main_v1))) := by
  after_results
  rfl

/-- The third stretch leaves the sines, zero in the padding rows. -/
theorem third_v19 : StableHlo.after hostOps0_2 W (Proc.devRef .tc main_v19) =
    mulf (Host.sin (angles (W (Proc.devRef .tc main_v7)))) (valid (W (Proc.devRef .tc main_v1))) := by
  after_results
  rfl

/-- The third stretch leaves the cosines transposed. -/
theorem third_v20 : StableHlo.after hostOps0_2 W (Proc.devRef .tc main_v20) =
    transpose S2048x1040 [1, 0] (mulf (Host.cos (angles (W (Proc.devRef .tc main_v7)))) (valid (W (Proc.devRef .tc main_v1))))
      transposes_S1040x2048_S2048x1040_1_0 := by
  after_results
  rfl

/-- The third stretch leaves the sines transposed. -/
theorem third_v21 : StableHlo.after hostOps0_2 W (Proc.devRef .tc main_v21) =
    transpose S2048x1040 [1, 0] (mulf (Host.sin (angles (W (Proc.devRef .tc main_v7)))) (valid (W (Proc.devRef .tc main_v1))))
      transposes_S1040x2048_S2048x1040_1_0 := by
  after_results
  rfl

/-- The third stretch leaves the weight matrix transposed. -/
theorem third_v22 : StableHlo.after hostOps0_2 W (Proc.devRef .tc main_v22) =
    transpose S1024x1024 [1, 0] (W (Proc.devRef .tc main_arg1)) transposes_S1024x1024_S1024x1024_1_0 := by
  after_results

/-- The third stretch leaves the bias as one row. -/
theorem third_v23 : StableHlo.after hostOps0_2 W (Proc.devRef .tc main_v23) =
    shapeCast S1x1024 (W (Proc.devRef .tc main_arg2)) shapeCasts_S1024_S1x1024 := by
  after_results
  rfl

/-! ## Entry by entry -/

/-- An entry of the product array is the product of its two coordinates, as words. -/
theorem prod_apply (f : Fin 1040) (s : Fin 2048) :
    prod (ix2 f s) = IntOp.muli (BitVec.ofNat 32 f.val) (BitVec.ofNat 32 s.val) := by
  pointwise [prod, rowCol]

/-- 2048 is not zero, so the divisor stays 2048. -/
theorem divisor_val : Scalar.select (IntOp.cmpi CmpIPredicate.eq 2048#32 0#32) 1#32 2048#32 = 2048#32 := by decide

/-- Of a word below 2³¹ and 2048 the two remainders agree: both are non-negative, and nothing is added. -/
theorem frem_apply (a : IVec S1040x2048 32) (f : Fin 1040) (s : Fin 2048) (h : 2 * (a (ix2 f s)).toNat < 2 ^ 32) :
    frem a (constantI S_ 32 2048#32) (ix2 f s) = IntOp.remsi .host (a (ix2 f s)) 2048#32 := by
  pointwise [frem, trem, divisor, spread]
  rw [divisor_val]
  have hr := IntOp.toNat_remsi .host h 2048 (by decide) (by decide)
  have hs : IntOp.cmpi CmpIPredicate.slt (IntOp.remsi ArithUnit.host (a (ix2 f s)) 2048#32) 0#32 = 0#1 := by
    generalize IntOp.remsi ArithUnit.host (a (ix2 f s)) 2048#32 = r at hr ⊢
    have hlt : r.toNat < 2048 := by
      rw [show r.toNat = _ from hr]; exact Nat.mod_lt _ (by decide)
    simp only [IntOp.cmpi]
    rw [BitVec.slt_eq_decide]
    have h0 : ¬ r.toInt < (0#32 : BitVec 32).toInt := by
      rw [BitVec.toInt_eq_toNat_of_lt (by omega), show (0#32 : BitVec 32).toInt = 0 by decide]; omega
    rw [decide_eq_false h0]
    rfl
  rw [hs, show IntOp.cmpi CmpIPredicate.slt 2048#32 0#32 = 0#1 by decide, show IntOp.cmpi CmpIPredicate.ne 0#1 0#1 = 0#1 by decide]
  generalize IntOp.cmpi CmpIPredicate.ne _ 0#32 = c
  rw [show IntOp.andi 0#1 c = 0#1 by revert c; decide]
  rfl

/-- The angle of frequency `f` at sample `s`: the remainder of `f * s` by 2048, as a number, times 2π/2048 rounded. -/
def angle (f s : ℕ) : EReal :=
  FloatOps.sitofp (F := Ideal) FTy.f32
      (IntOp.remsi .host (IntOp.muli (BitVec.ofNat 32 f) (BitVec.ofNat 32 s)) 2048#32) *
    Ideal.ofBits FTy.f32 0x3B490FDB#32

/-- Its cosine below row 1025, and zero from there on. -/
def cosB (f s : ℕ) : EReal := if f < 1025 then Ideal.cos (angle f s) else 0

/-- Its sine below row 1025, and zero from there on. -/
def sinB (f s : ℕ) : EReal := if f < 1025 then Ideal.sin (angle f s) else 0

/-- Multiplying by the row test keeps the rows below 1025 and makes the others zero. -/
theorem valid_val (x : EReal) (f : Fin 1040) :
    x * FloatOps.uitofp (F := Ideal) FTy.f32 (IntOp.cmpi CmpIPredicate.slt (BitVec.ofNat 32 f.val) 1025#32) =
      if f.val < 1025 then x else 0 := by
  have hi : (BitVec.ofNat 32 f.val).toInt = f.val := by
    have : (BitVec.ofNat 32 f.val).toNat = f.val := by rw [BitVec.toNat_ofNat]; omega
    rw [BitVec.toInt_eq_toNat_of_lt (by omega), this]
  have hc : IntOp.cmpi CmpIPredicate.slt (BitVec.ofNat 32 f.val) 1025#32 = if f.val < 1025 then 1#1 else 0#1 := by
    simp only [IntOp.cmpi]
    rw [BitVec.slt_eq_decide, hi, show (1025#32 : BitVec 32).toInt = 1025 by decide]
    by_cases h : f.val < 1025
    · have : (f.val : ℤ) < 1025 := by omega
      simp [h, this]
    · have : ¬ (f.val : ℤ) < 1025 := by omega
      simp [h, this]
  rw [hc]
  split
  · rw [show FloatOps.uitofp (F := Ideal) FTy.f32 1#1 = (1 : EReal) by simp [FloatOps.uitofp], mul_one]
  · rw [show FloatOps.uitofp (F := Ideal) FTy.f32 0#1 = (0 : EReal) by simp [FloatOps.uitofp], mul_zero]

/-- The products are far below the range of signed words. -/
theorem small (f : Fin 1040) (s : Fin 2048) : 2 * (prod (ix2 f s)).toNat < 2 ^ 32 := by
  rw [prod_apply]
  simp only [IntOp.muli]
  rw [BitVec.toNat_mul, BitVec.toNat_ofNat, BitVec.toNat_ofNat]
  have h1 : f.val % 2 ^ 32 = f.val := Nat.mod_eq_of_lt (by omega)
  have h2 : s.val % 2 ^ 32 = s.val := Nat.mod_eq_of_lt (by omega)
  have h3 : f.val * s.val ≤ 1040 * 2048 := Nat.mul_le_mul (by omega) (by omega)
  rw [h1, h2, Nat.mod_eq_of_lt (by omega)]
  omega

/-- The cosine array, entry by entry. -/
theorem cos_apply (f : Fin 1040) (s : Fin 2048) :
    mulf (Host.cos (angles (frem prod (constantI S_ 32 2048#32)))) (valid rowCol) (ix2 f s) = cosB f.val s.val := by
  pointwise [angles, valid, rowCol]
  rw [frem_apply _ _ _ (small f s), prod_apply, valid_val]
  rfl

/-- The sine array, entry by entry. -/
theorem sin_apply (f : Fin 1040) (s : Fin 2048) :
    mulf (Host.sin (angles (frem prod (constantI S_ 32 2048#32)))) (valid rowCol) (ix2 f s) = sinB f.val s.val := by
  pointwise [angles, valid, rowCol]
  rw [frem_apply _ _ _ (small f s), prod_apply, valid_val]
  rfl

end Cert.Proof.Basis
-- ==== Proof.Kernel.lean ====
/- What the ideal kernel leaves in its result buffer, from the three argument arrays. -/
module

public import proofs.«01_k».proof.Proof.Call0
public import proofs.«01_k».proof.Proof.Call1
public import proofs.«01_k».proof.Proof.Call2
public import proofs.«01_k».proof.Proof.Basis

@[expose] public section

set_option maxRecDepth 16384

noncomputable section

namespace Cert.Proof.Kernel

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The cosines, a row for each frequency. -/
def cosRows : FVec Ideal S1040x2048 .f32 := fun i => Basis.cosB (i 0).val (i 1).val

/-- The sines, a row for each frequency. -/
def sinRows : FVec Ideal S1040x2048 .f32 := fun i => Basis.sinB (i 0).val (i 1).val

/-- The cosines, a column for each frequency. -/
def cosCols : FVec Ideal S2048x1040 .f32 := fun i => Basis.cosB (i 1).val (i 0).val

/-- The sines, a column for each frequency. -/
def sinCols : FVec Ideal S2048x1040 .f32 := fun i => Basis.sinB (i 1).val (i 0).val

/-- The projection `x · Wᵀ + b`. -/
def hidden (x : FVec Ideal S4x2048x1024 .f32) (w : FVec Ideal S1024x1024 .f32) (b : FVec Ideal S1024 .f32) :
    FVec Ideal S4x2048x1024 .f32 := fun i =>
  (∑ k : Fin 1024, x (ix3 (i 0) (i 1) k) * w (ix2 (i 2) k)) + b (ix1 (i 2))

/-- The kernel's result: the kept frequencies of the projection, synthesised. -/
def result (x : FVec Ideal S4x2048x1024 .f32) (w : FVec Ideal S1024x1024 .f32) (b : FVec Ideal S1024 .f32) :
    FVec Ideal S4x2048x1024 .f32 :=
  Call2.synth cosCols sinCols (Call1.kept cosRows cosRows sinRows (hidden x w b))
    (Call1.kept sinRows cosRows sinRows (hidden x w b))

variable (m : (ℓ : Loc nD τ sig) → Buf (Elt Ideal) ℓ) (ρ : Dev nD → PrngReg)

/-- Before the third stretch of host operations the remainders are in place. -/
theorem W2_v7 (c : Dev nD) : W2 m ρ c (Proc.devRef .tc main_v7) = Basis.frem Basis.prod (constantI S_ 32 2048#32) := by
  rw [show W2 m ρ c (Proc.devRef .tc main_v7) = _ from Basis.second_v7 (W1 m ρ c),
    show W1 m ρ c (Proc.devRef .tc main_v6) = _ from Basis.first_v6 _, show W1 m ρ c (Proc.devRef .tc main_c) = _ from Basis.first_c _]

/-- And so are the row numbers. -/
theorem W2_v1 (c : Dev nD) : W2 m ρ c (Proc.devRef .tc main_v1) = Basis.rowCol := by
  rw [W2_of m ρ c main_v1 (by decide)]
  exact Basis.first_v1 _

/-- The first kernel starts with the cosines, a row for each frequency, in place. -/
theorem W3_v16 (c : Dev nD) : W3 m ρ c (Proc.devRef .tc main_v16) = cosRows := by
  rw [show W3 m ρ c (Proc.devRef .tc main_v16) = _ from Basis.third_v16 (W2 m ρ c), W2_v7, W2_v1]
  funext i
  rw [eq_ix2 i]
  exact Basis.cos_apply _ _

/-- And with the sines, a row for each frequency. -/
theorem W3_v19 (c : Dev nD) : W3 m ρ c (Proc.devRef .tc main_v19) = sinRows := by
  rw [show W3 m ρ c (Proc.devRef .tc main_v19) = _ from Basis.third_v19 (W2 m ρ c), W2_v7, W2_v1]
  funext i
  rw [eq_ix2 i]
  exact Basis.sin_apply _ _

/-- And with the cosines, a column for each frequency. -/
theorem W3_v20 (c : Dev nD) : W3 m ρ c (Proc.devRef .tc main_v20) = cosCols := by
  rw [show W3 m ρ c (Proc.devRef .tc main_v20) = _ from Basis.third_v20 (W2 m ρ c), W2_v7, W2_v1]
  funext i
  rw [eq_ix2 i]
  exact Eq.trans (by pointwise []) (Basis.cos_apply (i 1) (i 0))

/-- And with the sines, a column for each frequency. -/
theorem W3_v21 (c : Dev nD) : W3 m ρ c (Proc.devRef .tc main_v21) = sinCols := by
  rw [show W3 m ρ c (Proc.devRef .tc main_v21) = _ from Basis.third_v21 (W2 m ρ c), W2_v7, W2_v1]
  funext i
  rw [eq_ix2 i]
  exact Eq.trans (by pointwise []) (Basis.sin_apply (i 1) (i 0))

/-- An argument array is still as it was before the third stretch. -/
theorem W2_arg (c : Dev nD) (a) (h : a ∈ argRefs) : W2 m ρ c (Proc.devRef .tc a) = m ((c : Thread nD τ).loc a) := W2_args m ρ c a h

/-- What the first kernel leaves in its output array. -/
theorem W4_v24 (c : Dev nD) : W4 m ρ c (Proc.devRef .tc main_v24) =
    hidden (m ((c : Thread nD τ).loc main_arg0)) (m ((c : Thread nD τ).loc main_arg1)) (m ((c : Thread nD τ).loc main_arg2)) := by
  refine (W4_arr m ρ c 3).trans ((Call0.arr (V3 m ρ) c).trans ?_)
  have h0 : V3 m ρ c main_arg0 = m ((c : Thread nD τ).loc main_arg0) := W3_args m ρ c _ (by decide)
  have h1 : V3 m ρ c main_v22 = transpose S1024x1024 [1, 0] (m ((c : Thread nD τ).loc main_arg1)) transposes_S1024x1024_S1024x1024_1_0 := by
    refine (Basis.third_v22 (W2 m ρ c)).trans ?_
    rw [W2_arg m ρ c main_arg1 (by decide)]
  have h2 : V3 m ρ c main_v23 = shapeCast S1x1024 (m ((c : Thread nD τ).loc main_arg2)) shapeCasts_S1024_S1x1024 := by
    refine (Basis.third_v23 (W2 m ρ c)).trans ?_
    rw [W2_arg m ρ c main_arg2 (by decide)]
  rw [h0, h1, h2]
  funext i
  unfold Call0.proj hidden
  congr 1
  · refine Finset.sum_congr rfl fun k _ => ?_
    congr 1
    pointwise []
  · pointwise []

/-- The cosines come through the first kernel. -/
theorem W4_v16 (c : Dev nD) : W4 m ρ c (Proc.devRef .tc main_v16) = cosRows :=
  (W4_of m ρ c main_v16 (by decide)).trans (W3_v16 m ρ c)
/-- The sines come through the first kernel. -/
theorem W4_v19 (c : Dev nD) : W4 m ρ c (Proc.devRef .tc main_v19) = sinRows :=
  (W4_of m ρ c main_v19 (by decide)).trans (W3_v19 m ρ c)
/-- The transposed cosines come through the first two kernels. -/
theorem W5_v20 (c : Dev nD) : W5 m ρ c (Proc.devRef .tc main_v20) = cosCols :=
  (W5_of m ρ c main_v20 (by decide)).trans ((W4_of m ρ c main_v20 (by decide)).trans (W3_v20 m ρ c))
/-- The transposed sines come through the first two kernels. -/
theorem W5_v21 (c : Dev nD) : W5 m ρ c (Proc.devRef .tc main_v21) = sinCols :=
  (W5_of m ρ c main_v21 (by decide)).trans ((W4_of m ρ c main_v21 (by decide)).trans (W3_v21 m ρ c))

/-- The second kernel's first output array: the kept cosine coefficients. -/
theorem W5_v25_0 (c : Dev nD) : W5 m ρ c (Proc.devRef .tc main_v25_0) =
    Call1.kept cosRows cosRows sinRows
      (hidden (m ((c : Thread nD τ).loc main_arg0)) (m ((c : Thread nD τ).loc main_arg1)) (m ((c : Thread nD τ).loc main_arg2))) := by
  refine (W5_arr m ρ c 3).trans ((Call1.arr3 (V4 m ρ) c).trans ?_)
  rw [show V4 m ρ c main_v16 = _ from W4_v16 m ρ c, show V4 m ρ c main_v19 = _ from W4_v19 m ρ c,
    show V4 m ρ c main_v24 = _ from W4_v24 m ρ c]
/-- The second output array: the kept sine coefficients. -/
theorem W5_v25_1 (c : Dev nD) : W5 m ρ c (Proc.devRef .tc main_v25_1) =
    Call1.kept sinRows cosRows sinRows
      (hidden (m ((c : Thread nD τ).loc main_arg0)) (m ((c : Thread nD τ).loc main_arg1)) (m ((c : Thread nD τ).loc main_arg2))) := by
  refine (W5_arr m ρ c 4).trans ((Call1.arr4 (V4 m ρ) c).trans ?_)
  rw [show V4 m ρ c main_v16 = _ from W4_v16 m ρ c, show V4 m ρ c main_v19 = _ from W4_v19 m ρ c,
    show V4 m ρ c main_v24 = _ from W4_v24 m ρ c]

/-- What the third kernel leaves in the result buffer. -/
theorem out (c : Dev nD) : W6 m ρ c (Proc.devRef .tc main_v26) =
    result (m ((c : Thread nD τ).loc main_arg0)) (m ((c : Thread nD τ).loc main_arg1)) (m ((c : Thread nD τ).loc main_arg2)) := by
  refine (W6_arr m ρ c 4).trans ((Call2.arr (V5 m ρ) c).trans ?_)
  rw [show V5 m ρ c main_v20 = _ from W5_v20 m ρ c, show V5 m ρ c main_v21 = _ from W5_v21 m ρ c,
    show V5 m ρ c main_v25_0 = _ from W5_v25_0 m ρ c, show V5 m ρ c main_v25_1 = _ from W5_v25_1 m ρ c]
  rfl

set_option backward.isDefEq.respectTransparency.types false in
/-- Every execution of the ideal kernel ends with `result` of the arguments in the result buffer and the
    arguments as they were. -/
theorem run : θ_run defs (onTc (τ := τ) (main (F := Ideal))) ⟨m, fun _ => 0, ρ⟩ (fun r => ∀ c : Dev nD,
      r.2.mem ((c.tc : Thread nD τ).loc main_v26) = result (m ((c : Thread nD τ).loc main_arg0))
        (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c => ⟨(h c _ (mem_uc main_v26 (by decide))).trans (out m ρ c),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c)⟩)

end Cert.Proof.Kernel
-- ==== Proof.Reference.lean ====
/- What the reference computes, entry by entry. -/
module

public import proofs.«01_k».proof.Proof.Mask
public import proofs.«01_k».proof.Proof.Kernel

@[expose] public section

set_option maxRecDepth 16384

noncomputable section

namespace Cert.Proof.Reference

open Idealize.ShloMosaic Cert.ReferenceIdeal Cert.ReferenceIdeal.Gen Cert.ReferenceIdeal.Read

variable (x0 : FVec Ideal S4x2048x1024 .f32) (x1 : FVec Ideal S1024x1024 .f32) (x2 : FVec Ideal S1024 .f32)

/-- The projection is the kernel's. -/
theorem hidden_apply (b : Fin 4) (s : Fin 2048) (h : Fin 1024) :
    val_main_v4 (F := Ideal) x0 x1 x2 (ix3 b s h) = Kernel.hidden x0 x1 x2 (ix3 b s h) := by
  rw [val_main_v4_apply, val_main_v1_apply, val_main_v3_apply, val_main_v2_apply]
  unfold Kernel.hidden
  refine congrArg₂ (fun p q : EReal => p + q) (Finset.sum_congr rfl fun k _ => ?_) (congrArg x2 ?_)
  · rw [val_main_v0_apply]
    refine congrArg₂ (fun p q : EReal => p * q) (congrArg x0 ?_) (congrArg x1 ?_)
    · funext a
      match a with
      | ⟨0, _⟩ => rfl
      | ⟨1, _⟩ => rfl
      | ⟨2, _⟩ => rfl
    · funext a
      match a with
      | ⟨0, _⟩ => rfl
      | ⟨1, _⟩ => rfl
  · funext a
    match a with
    | ⟨0, _⟩ => rfl

/-- The reference's cosine table, entry by entry. -/
theorem cos_apply (f : Fin 1025) (s : Fin 2048) :
    val_main_v17 (F := Ideal) (ix2 f s) = Ideal.cos (Basis.angle f.val s.val) := by
  pointwise [val_main_v17, val_main_v16, val_main_v14, val_main_v13, val_main_v11, val_main_v9, val_main_v10,
    val_main_v6, val_main_v5, val_main_v8, val_main_v7, val_main_v12, val_main_c, val_main_v15, val_main_cst]
  rfl

/-- The reference's sine table, entry by entry. -/
theorem sin_apply (f : Fin 1025) (s : Fin 2048) :
    val_main_v18 (F := Ideal) (ix2 f s) = Ideal.sin (Basis.angle f.val s.val) := by
  pointwise [val_main_v18, val_main_v16, val_main_v14, val_main_v13, val_main_v11, val_main_v9, val_main_v10,
    val_main_v6, val_main_v5, val_main_v8, val_main_v7, val_main_v12, val_main_c, val_main_v15, val_main_cst]
  rfl

/-- The part of the transform against one of the two basis functions, as a sum over the samples. -/
def part (B : EReal → EReal) (b : Fin 4) (h : Fin 1024) (f : Fin 1025) : EReal :=
  ∑ s : Fin 2048, B (Basis.angle f.val s.val) * Kernel.hidden x0 x1 x2 (ix3 b s h)

/-- The transform's cosine sums. -/
theorem cos_part (b : Fin 4) (h : Fin 1024) (f : Fin 1025) :
    val_main_v19 (F := Ideal) x0 x1 x2 (ix3 b h f) = part x0 x1 x2 Ideal.cos b h f := by
  rw [val_main_v19_apply]
  refine Finset.sum_congr rfl fun s _ => ?_
  rw [show lidx_main_v19 (ix3 b h f) s = ix3 b s h from ?_, show ridx_main_v19 (ix3 b h f) s = ix2 f s from ?_,
    hidden_apply, cos_apply, mul_comm]
  · funext a
    match a with
    | ⟨0, _⟩ => rfl
    | ⟨1, _⟩ => rfl
  · funext a
    match a with
    | ⟨0, _⟩ => rfl
    | ⟨1, _⟩ => rfl
    | ⟨2, _⟩ => rfl

/-- The transform's sine sums. -/
theorem sin_part (b : Fin 4) (h : Fin 1024) (f : Fin 1025) :
    val_main_v20 (F := Ideal) x0 x1 x2 (ix3 b h f) = part x0 x1 x2 Ideal.sin b h f := by
  rw [val_main_v20_apply]
  refine Finset.sum_congr rfl fun s _ => ?_
  rw [show lidx_main_v20 (ix3 b h f) s = ix3 b s h from ?_, show ridx_main_v20 (ix3 b h f) s = ix2 f s from ?_,
    hidden_apply, sin_apply, mul_comm]
  · funext a
    match a with
    | ⟨0, _⟩ => rfl
    | ⟨1, _⟩ => rfl
  · funext a
    match a with
    | ⟨0, _⟩ => rfl
    | ⟨1, _⟩ => rfl
    | ⟨2, _⟩ => rfl

/-- The squared magnitude. -/
def energy (b : Fin 4) (h : Fin 1024) (f : Fin 1025) : EReal :=
  part x0 x1 x2 Ideal.cos b h f * part x0 x1 x2 Ideal.cos b h f + part x0 x1 x2 Ideal.sin b h f * part x0 x1 x2 Ideal.sin b h f

/-- The magnitude is the square root of the squared magnitude. -/
theorem mag_apply (b : Fin 4) (h : Fin 1024) (f : Fin 1025) :
    Mask.mag x0 x1 x2 (ix3 b h f) = Ideal.sqrt (energy x0 x1 x2 b h f) := by
  unfold Mask.mag
  rw [val_main_v24_apply, val_main_v23_apply, val_main_v21_apply, val_main_v22_apply, cos_part, sin_part]
  rfl

/-- The square root keeps the order of the non-negative numbers. -/
theorem sqrt_lt {x y : EReal} (hx : 0 ≤ x) (hy : 0 ≤ y) : Ideal.sqrt x < Ideal.sqrt y ↔ x < y := by
  induction x with
  | bot => exact absurd hx (by simp)
  | top =>
    constructor
    · intro h; rw [Ideal.sqrt_top] at h; exact absurd h (not_top_lt)
    · intro h; exact absurd h (not_top_lt)
  | coe r =>
    have hr : 0 ≤ r := by exact_mod_cast hx
    induction y with
    | bot => exact absurd hy (by simp)
    | top => simp [not_lt.mpr hr]
    | coe t =>
      have ht : 0 ≤ t := by exact_mod_cast hy
      rw [Ideal.sqrt_coe, Ideal.sqrt_coe, if_neg (not_lt.mpr hr), if_neg (not_lt.mpr ht), EReal.coe_lt_coe_iff,
        EReal.coe_lt_coe_iff]
      exact Real.sqrt_lt_sqrt_iff hr

/-- A squared magnitude is not negative. -/
theorem energy_nonneg (b : Fin 4) (h : Fin 1024) (f : Fin 1025) : 0 ≤ energy x0 x1 x2 b h f :=
  add_nonneg (Call1.mul_self_nonneg' _) (Call1.mul_self_nonneg' _)

open Classical in
/-- The mask, by the squared magnitudes. -/
theorem mask_apply (b : Fin 4) (h : Fin 1024) (f : Fin 1025) :
    val_main_v52 (F := Ideal) x0 x1 x2 (ix3 b h f) =
      if Select.rank (energy x0 x1 x2 b h) f < 32 then (1 : EReal) else 0 := by
  rw [Mask.mask_apply]
  rw [Select.rank_congr (b := energy x0 x1 x2 b h) (fun g f => by
    rw [mag_apply, mag_apply]
    exact sqrt_lt (energy_nonneg x0 x1 x2 b h g) (energy_nonneg x0 x1 x2 b h f))]

/-- The weight of a frequency. -/
theorem weight_apply (f : Fin 1025) : val_main_v58 (F := Ideal) (ix2 f 0) = Call1.wt f.val := by
  pointwise [val_main_v58, val_main_v57, val_main_v54, val_main_v56, val_main_v53, val_main_v55, val_main_c_8, val_main_c_9,
    val_main_v6, val_main_v5, val_main_call0_v0, val_main_call0_v1, val_main_cst_10, val_main_cst_11]
  have hf : (BitVec.ofNat 32 f.val).toNat = f.val := by rw [BitVec.toNat_ofNat]; omega
  have he : ∀ n : ℕ, n < 2 ^ 32 → (IntOp.cmpi CmpIPredicate.eq (BitVec.ofNat 32 f.val) (BitVec.ofNat 32 n) = 1#1 ↔ f.val = n) := fun n hn => by
    have hn' : (BitVec.ofNat 32 n).toNat = n := by rw [BitVec.toNat_ofNat]; omega
    rw [IntOp.cmpi_eq, ← BitVec.toNat_inj, hf, hn']
  unfold Call1.wt
  by_cases h : f.val = 0 ∨ f.val = 1024
  · rw [if_pos h, show IntOp.ori _ _ = 1#1 from IntOp.ori_eq_one.mpr (h.imp (he 0 (by decide)).mpr (he 1024 (by decide)).mpr)]
    rfl
  · rw [if_neg h]
    exact if_neg fun e => h ((IntOp.ori_eq_one.mp e).imp (he 0 (by decide)).mp (he 1024 (by decide)).mp)

/-- One of the two synthesis sums, at batch `b`, sample `s`, channel `h`. -/
def summed (B : EReal → EReal) (b : Fin 4) (s : Fin 2048) (h : Fin 1024) : EReal :=
  ∑ f : Fin 1025, B (Basis.angle f.val s.val) * (Call1.keep (energy x0 x1 x2 b h) f * part x0 x1 x2 B b h f)

/-- One term of a synthesis sum, rearranged: the mask, the sum and the weighted basis function in either order. -/
theorem term_eq (c p w : EReal) (P : Prop) [Decidable P] :
    ((if P then (1 : EReal) else 0) * p) * (w * c) = c * ((if P then w else 0) * p) := by
  by_cases h : P
  · rw [if_pos h, if_pos h, one_mul, mul_comm w c, mul_comm w p, mul_left_comm]
  · rw [if_neg h, if_neg h, zero_mul, zero_mul, mul_zero]

/-- The cosine half of the synthesis. -/
theorem cos_sum (b : Fin 4) (s : Fin 2048) (h : Fin 1024) :
    val_main_v62 (F := Ideal) x0 x1 x2 (ix3 b h s) = summed x0 x1 x2 Ideal.cos b s h := by
  rw [val_main_v62_apply]
  refine Finset.sum_congr rfl fun f _ => ?_
  rw [show lidx_main_v62 (ix3 b h s) f = ix3 b h f from ?_, show ridx_main_v62 (ix3 b h s) f = ix2 f s from ?_,
    val_main_v61_apply, val_main_v60_apply, cos_part, cos_apply, mask_apply, val_main_v59_apply,
    show idx_main_v59 (ix2 f s) = ix2 f 0 from ?_, weight_apply]
  · exact term_eq _ _ _ _
  · funext a
    match a with
    | ⟨0, _⟩ => rfl
    | ⟨1, _⟩ => rfl
  · funext a
    match a with
    | ⟨0, _⟩ => rfl
    | ⟨1, _⟩ => rfl
  · funext a
    match a with
    | ⟨0, _⟩ => rfl
    | ⟨1, _⟩ => rfl
    | ⟨2, _⟩ => rfl

/-- The sine half of the synthesis. -/
theorem sin_sum (b : Fin 4) (s : Fin 2048) (h : Fin 1024) :
    val_main_v67 (F := Ideal) x0 x1 x2 (ix3 b h s) = summed x0 x1 x2 Ideal.sin b s h := by
  rw [val_main_v67_apply]
  refine Finset.sum_congr rfl fun f _ => ?_
  rw [show lidx_main_v67 (ix3 b h s) f = ix3 b h f from ?_, show ridx_main_v67 (ix3 b h s) f = ix2 f s from ?_,
    val_main_v66_apply, val_main_v65_apply, sin_part, sin_apply, mask_apply, val_main_v64_apply,
    show idx_main_v64 (ix2 f s) = ix2 f 0 from ?_, weight_apply]
  · exact term_eq _ _ _ _
  · funext a
    match a with
    | ⟨0, _⟩ => rfl
    | ⟨1, _⟩ => rfl
  · funext a
    match a with
    | ⟨0, _⟩ => rfl
    | ⟨1, _⟩ => rfl
  · funext a
    match a with
    | ⟨0, _⟩ => rfl
    | ⟨1, _⟩ => rfl
    | ⟨2, _⟩ => rfl

/-- The reference's result at one entry. -/
theorem result_apply (b : Fin 4) (s : Fin 2048) (h : Fin 1024) :
    val_main_v69 (F := Ideal) x0 x1 x2 (ix3 b s h) =
      summed x0 x1 x2 Ideal.cos b s h + summed x0 x1 x2 Ideal.sin b s h := by
  rw [val_main_v69_apply, val_main_v63_apply, val_main_v68_apply,
    show idx_main_v63 (ix3 b s h) = ix3 b h s from ?_, show idx_main_v68 (ix3 b s h) = ix3 b h s from ?_, cos_sum, sin_sum]
  · rfl
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl

end Cert.Proof.Reference
-- ==== Proof.Equation.lean ====
/- The kernel and the reference compute the same array. -/
module

public import proofs.«01_k».proof.Proof.Reference

@[expose] public section

set_option maxRecDepth 16384

noncomputable section

namespace Cert.Proof.Equation

open Idealize.ShloMosaic Cert.ReferenceIdeal

variable (x0 : FVec Ideal S4x2048x1024 .f32) (x1 : FVec Ideal S1024x1024 .f32) (x2 : FVec Ideal S1024 .f32)

/-- A frequency among the padded ones. -/
abbrev up (f : Fin 1025) : Fin 1040 := f.castLE (by decide)

/-- A sum over the padded frequencies whose last fifteen terms are zero. -/
theorem sum_padded (t : Fin 1040 → EReal) (ht : ∀ f : Fin 1040, 1025 ≤ f.val → t f = 0) :
    ∑ f : Fin 1040, t f = ∑ f : Fin 1025, t (up f) := by
  have e := Fin.sum_univ_add (a := 1025) (b := 15) (fun f : Fin (1025 + 15) => t f)
  refine Eq.trans e ?_
  rw [Finset.sum_eq_zero (s := Finset.univ (α := Fin 15)) fun g _ => ht _ (by simp), add_zero]
  rfl

/-- The kernel's squared magnitudes. -/
abbrev amp (b : Fin 4) (h : Fin 1024) : Fin 1040 → EReal :=
  Call1.power Kernel.cosRows Kernel.sinRows (Kernel.hidden x0 x1 x2) b h

/-- Below row 1025 the kernel's cosine sum is the reference's. -/
theorem cos_dft (b : Fin 4) (h : Fin 1024) (f : Fin 1025) :
    Call1.dft Kernel.cosRows (Kernel.hidden x0 x1 x2) b (up f) h = Reference.part x0 x1 x2 Ideal.cos b h f :=
  Finset.sum_congr rfl fun s _ => congrArg (· * _) (if_pos f.isLt)

/-- Below row 1025 the kernel's sine sum is the reference's. -/
theorem sin_dft (b : Fin 4) (h : Fin 1024) (f : Fin 1025) :
    Call1.dft Kernel.sinRows (Kernel.hidden x0 x1 x2) b (up f) h = Reference.part x0 x1 x2 Ideal.sin b h f :=
  Finset.sum_congr rfl fun s _ => congrArg (· * _) (if_pos f.isLt)

/-- In the padding rows the cosine sum is zero. -/
theorem cos_pad (b : Fin 4) (h : Fin 1024) (f : Fin 1040) (hf : 1025 ≤ f.val) :
    Call1.dft Kernel.cosRows (Kernel.hidden x0 x1 x2) b f h = 0 :=
  Finset.sum_eq_zero fun s _ => (congrArg (· * _) (if_neg (Nat.not_lt.mpr hf))).trans (zero_mul _)

/-- In the padding rows the sine sum is zero. -/
theorem sin_pad (b : Fin 4) (h : Fin 1024) (f : Fin 1040) (hf : 1025 ≤ f.val) :
    Call1.dft Kernel.sinRows (Kernel.hidden x0 x1 x2) b f h = 0 :=
  Finset.sum_eq_zero fun s _ => (congrArg (· * _) (if_neg (Nat.not_lt.mpr hf))).trans (zero_mul _)

/-- Below row 1025 the squared magnitudes are the reference's. -/
theorem amp_up (b : Fin 4) (h : Fin 1024) : (fun f => amp x0 x1 x2 b h (up f)) = Reference.energy x0 x1 x2 b h := by
  funext f
  unfold amp Call1.power Reference.energy
  rw [cos_dft, sin_dft]

/-- The kernel keeps the frequencies that the reference keeps, with the same weights. -/
theorem keep_up (b : Fin 4) (h : Fin 1024) (f : Fin 1025) :
    Call1.keep (amp x0 x1 x2 b h) (up f) = Call1.keep (Reference.energy x0 x1 x2 b h) f := by
  have e := Select.rank_padded (by decide : 1025 ≤ 1040) (amp x0 x1 x2 b h)
    (fun f => add_nonneg (Call1.mul_self_nonneg' _) (Call1.mul_self_nonneg' _))
    (fun f hf => by
      unfold amp Call1.power
      rw [cos_pad _ _ _ _ _ _ hf, sin_pad _ _ _ _ _ _ hf, mul_zero, add_zero]) f
  rw [show (fun g : Fin 1025 => amp x0 x1 x2 b h (g.castLE _)) = _ from amp_up x0 x1 x2 b h] at e
  unfold Call1.keep
  rw [show Select.rank (amp x0 x1 x2 b h) (up f) = _ from e]
  rfl

/-- The kernel's result at one entry is the reference's. -/
theorem result_apply (b : Fin 4) (s : Fin 2048) (h : Fin 1024) :
    Kernel.result x0 x1 x2 (ix3 b s h) =
      Reference.summed x0 x1 x2 Ideal.cos b s h + Reference.summed x0 x1 x2 Ideal.sin b s h := by
  unfold Kernel.result Call2.synth
  refine congrArg₂ (fun p q : EReal => p + q) ?_ ?_
  · refine (sum_padded (fun f => Basis.cosB f.val s.val *
      (Call1.keep (amp x0 x1 x2 b h) f * Call1.dft Kernel.cosRows (Kernel.hidden x0 x1 x2) b f h))
      fun f hf => (congrArg (· * _) (if_neg (Nat.not_lt.mpr hf))).trans (zero_mul _)).trans ?_
    refine Finset.sum_congr rfl fun f _ => ?_
    refine congrArg₂ (fun p q : EReal => p * q) (if_pos f.isLt) ?_
    exact congrArg₂ (fun p q : EReal => p * q) (keep_up x0 x1 x2 b h f) (cos_dft x0 x1 x2 b h f)
  · refine (sum_padded (fun f => Basis.sinB f.val s.val *
      (Call1.keep (amp x0 x1 x2 b h) f * Call1.dft Kernel.sinRows (Kernel.hidden x0 x1 x2) b f h))
      fun f hf => (congrArg (· * _) (if_neg (Nat.not_lt.mpr hf))).trans (zero_mul _)).trans ?_
    refine Finset.sum_congr rfl fun f _ => ?_
    refine congrArg₂ (fun p q : EReal => p * q) (if_pos f.isLt) ?_
    exact congrArg₂ (fun p q : EReal => p * q) (keep_up x0 x1 x2 b h f) (sin_dft x0 x1 x2 b h f)

/-- The kernel's result is the reference's, from any three argument arrays. -/
theorem result_eq : Kernel.result x0 x1 x2 = Read.val_main_v69 (F := Ideal) x0 x1 x2 := by
  funext i
  rw [eq_ix3 i]
  exact (result_apply x0 x1 x2 (i 0) (i 1) (i 2)).trans (Reference.result_apply x0 x1 x2 (i 0) (i 1) (i 2)).symm

end Cert.Proof.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The ideal kernel and the ideal reference, from the same three arrays, end with the same result array, the one
    `Kernel.result` names, and with their arguments as they were. -/
theorem equal : Cert.algebraic_KernelIdeal_ReferenceIdeal := fun m g m' g' _ hm =>
  ⟨fun c => Kernel.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Kernel.run m g,
    (θ_run Cert.ReferenceIdeal.defs _ _).mono
      (fun _ h c => ⟨(h c).1.trans (by
        rw [Cert.ReferenceIdeal.Read.val_main_v69_eq, (hm c).1, (hm c).2.1, (hm c).2.2]
        exact (Equation.result_eq _ _ _).symm), (h c).2⟩)
      (Cert.ReferenceIdeal.Value.run (F := Ideal) m' g')⟩

/-- Every claim of the certificate: the three programs end with their arguments as they were and every counter at zero,
    the kernel's ideal form is the kernel's own program, and it computes what the reference computes. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ =>
    (θ_run Cert.ReferenceIdeal.defs _ _).mono
      (fun r h => ⟨fun c => (h c).2, sem_eq_zero_of_no_sems (by decide) r.2⟩)
      (Cert.ReferenceIdeal.Value.run (F := Ideal) m ρ), trivial, equal⟩

end Cert.Proof

end
